-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.bf16_pair.BufferStatement Cert.KernelIdeal.S40x2x1024 Cert.KernelIdeal.S40x1x1024
  ∧ IdealRules.bf16_pair.HalfStatement Cert.KernelIdeal.S40x1024
  ∧ IdealRules.bf16_pair.Statement Cert.KernelIdeal.S40x2x1024 Cert.KernelIdeal.S40x1x1024
  ∧ IdealRules.bf16_pair.Statement Cert.KernelIdeal.S1x2x1024 Cert.KernelIdeal.S1x1x1024
  ∧ IdealRules.bf16_pair.Statement Cert.KernelIdeal.S32x1024 Cert.KernelIdeal.S16x1024

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x1x5120 : Shape := ⟨3, ![256, 1, 5120]⟩
abbrev S5120 : Shape := ⟨1, ![5120]⟩
abbrev S640x27648 : Shape := ⟨2, ![640, 27648]⟩
abbrev S40x27648 : Shape := ⟨2, ![40, 27648]⟩
abbrev S40x3456 : Shape := ⟨2, ![40, 3456]⟩
abbrev S256x5120 : Shape := ⟨2, ![256, 5120]⟩
abbrev S1x5120 : Shape := ⟨2, ![1, 5120]⟩
abbrev S256x27648 : Shape := ⟨2, ![256, 27648]⟩
abbrev S640x1024 : Shape := ⟨2, ![640, 1024]⟩
abbrev S40x1024 : Shape := ⟨2, ![40, 1024]⟩
abbrev S40x128 : Shape := ⟨2, ![40, 128]⟩
abbrev S256x1024 : Shape := ⟨2, ![256, 1024]⟩
abbrev S256 : Shape := ⟨1, ![256]⟩
abbrev S256x1 : Shape := ⟨2, ![256, 1]⟩
abbrev S1x128 : Shape := ⟨2, ![1, 128]⟩
abbrev S256x128 : Shape := ⟨2, ![256, 128]⟩
abbrev S256x128x1 : Shape := ⟨3, ![256, 128, 1]⟩
abbrev S40x128x1 : Shape := ⟨3, ![40, 128, 1]⟩
abbrev S16x1024 : Shape := ⟨2, ![16, 1024]⟩
abbrev S1x1024 : Shape := ⟨2, ![1, 1024]⟩
abbrev S32x1024 : Shape := ⟨2, ![32, 1024]⟩
abbrev S256x256 : Shape := ⟨2, ![256, 256]⟩

abbrev nBuf : Space → Nat
  | .hbm => 8
  | .vmem => 14
  | .smem => 0
  | _ => 0

abbrev bufTy : (tb : Table) → Fin (tcTables nBuf tb) → BufTy
  | .hbm, ⟨0, _⟩ => ⟨S256x1x5120, .bf16⟩
  | .hbm, ⟨1, _⟩ => ⟨S5120, .f32⟩
  | .hbm, ⟨2, _⟩ => ⟨S640x27648, .i32⟩
  | .hbm, ⟨3, _⟩ => ⟨S40x27648, .bf16⟩
  | .hbm, ⟨4, _⟩ => ⟨S40x3456, .i32⟩
  | .hbm, ⟨5, _⟩ => ⟨S256x5120, .bf16⟩
  | .hbm, ⟨6, _⟩ => ⟨S1x5120, .f32⟩
  | .hbm, ⟨7, _⟩ => ⟨S256x27648, .bf16⟩
  | .local _ .vmem, ⟨0, _⟩ => ⟨S256x5120, .bf16⟩
  | .local _ .vmem, ⟨1, _⟩ => ⟨S1x5120, .f32⟩
  | .local _ .vmem, ⟨2, _⟩ => ⟨S640x1024, .i32⟩
  | .local _ .vmem, ⟨3, _⟩ => ⟨S640x1024, .i32⟩
  | .local _ .vmem, ⟨4, _⟩ => ⟨S40x1024, .bf16⟩
  | .local _ .vmem, ⟨5, _⟩ => ⟨S40x1024, .bf16⟩
  | .local _ .vmem, ⟨6, _⟩ => ⟨S40x128, .i32⟩
  | .local _ .vmem, ⟨7, _⟩ => ⟨S40x128, .i32⟩
  | .local _ .vmem, ⟨8, _⟩ => ⟨S256x1024, .bf16⟩
  | .local _ .vmem, ⟨9, _⟩ => ⟨S256x1024, .bf16⟩
  | .local _ .vmem, ⟨10, _⟩ => ⟨S256x5120, .bf16⟩
  | .local _ .vmem, ⟨11, _⟩ => ⟨S40x1024, .i32⟩
  | .local _ .vmem, ⟨12, _⟩ => ⟨S40x1024, .i32⟩
  | .local _ .vmem, ⟨13, _⟩ => ⟨S256x1024, .f32⟩
  | _, _ => ⟨S256x1x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [BitOps F]

abbrev grid0 : Pipeline.Grid := ⟨1, ![27], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S256x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x5120 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S640x1024 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S40x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S40x128 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== KernelIdeal.lean ====
abbrev S40x2x1024 : Shape := ⟨3, ![40, 2, 1024]⟩
abbrev S40x1x1024 : Shape := ⟨3, ![40, 1, 1024]⟩
abbrev S1x2x1024 : Shape := ⟨3, ![1, 2, 1024]⟩
abbrev S1x1x1024 : Shape := ⟨3, ![1, 1, 1024]⟩
  | .local _ .vmem, ⟨11, _⟩ => ⟨S40x2x1024, .bf16⟩
variable {F : FTy → Type} [FloatOps F]
-- ==== ReferenceIdeal.lean ====
abbrev S256x1x5120 : Shape := ⟨3, ![256, 1, 5120]⟩
abbrev S5120 : Shape := ⟨1, ![5120]⟩
abbrev S640x27648 : Shape := ⟨2, ![640, 27648]⟩
abbrev S40x27648 : Shape := ⟨2, ![40, 27648]⟩
abbrev S40x3456 : Shape := ⟨2, ![40, 3456]⟩
abbrev S_ : Shape := ⟨0, ![]⟩
abbrev S256x1 : Shape := ⟨2, ![256, 1]⟩
abbrev S256x1x1 : Shape := ⟨3, ![256, 1, 1]⟩
abbrev S1x1x5120 : Shape := ⟨3, ![1, 1, 5120]⟩
abbrev S40x3456x1 : Shape := ⟨3, ![40, 3456, 1]⟩
abbrev S40x3456x8 : Shape := ⟨3, ![40, 3456, 8]⟩
abbrev S8 : Shape := ⟨1, ![8]⟩
abbrev S1x8x1 : Shape := ⟨3, ![1, 8, 1]⟩
abbrev S640x1x27648 : Shape := ⟨3, ![640, 1, 27648]⟩
abbrev S640x8x27648 : Shape := ⟨3, ![640, 8, 27648]⟩
abbrev S40x16x8x27648 : Shape := ⟨4, ![40, 16, 8, 27648]⟩
abbrev S40x1x1x27648 : Shape := ⟨4, ![40, 1, 1, 27648]⟩
abbrev S5120x27648 : Shape := ⟨2, ![5120, 27648]⟩
abbrev S256x1x27648 : Shape := ⟨3, ![256, 1, 27648]⟩
abbrev S256x27648 : Shape := ⟨2, ![256, 27648]⟩

abbrev nBuf : Space → Nat
  | .hbm => 106
  | .vmem => 0
  | .smem => 0
  | _ => 0

abbrev bufTy : (tb : Table) → Fin (tcTables nBuf tb) → BufTy
  | .hbm, ⟨0, _⟩ => ⟨S256x1x5120, .bf16⟩
  | .hbm, ⟨1, _⟩ => ⟨S5120, .f32⟩
  | .hbm, ⟨2, _⟩ => ⟨S640x27648, .i32⟩
  | .hbm, ⟨3, _⟩ => ⟨S40x27648, .bf16⟩
  | .hbm, ⟨4, _⟩ => ⟨S40x3456, .i32⟩
  | .hbm, ⟨5, _⟩ => ⟨S256x1x5120, .f32⟩
  | .hbm, ⟨6, _⟩ => ⟨S256x1x5120, .f32⟩
  | .hbm, ⟨7, _⟩ => ⟨S_, .f32⟩
  | .hbm, ⟨8, _⟩ => ⟨S256x1, .f32⟩
  | .hbm, ⟨9, _⟩ => ⟨S256x1x1, .f32⟩
  | .hbm, ⟨10, _⟩ => ⟨S_, .f32⟩
  | .hbm, ⟨11, _⟩ => ⟨S256x1x1, .f32⟩
  | .hbm, ⟨12, _⟩ => ⟨S256x1x1, .f32⟩
  | .hbm, ⟨13, _⟩ => ⟨S_, .f32⟩
  | .hbm, ⟨14, _⟩ => ⟨S256x1x1, .f32⟩
  | .hbm, ⟨15, _⟩ => ⟨S256x1x1, .f32⟩
  | .hbm, ⟨16, _⟩ => ⟨S256x1x1, .f32⟩
  | .hbm, ⟨17, _⟩ => ⟨S256x1x5120, .f32⟩
  | .hbm, ⟨18, _⟩ => ⟨S256x1x5120, .f32⟩
  | .hbm, ⟨19, _⟩ => ⟨S1x1x5120, .f32⟩
  | .hbm, ⟨20, _⟩ => ⟨S256x1x5120, .f32⟩
  | .hbm, ⟨21, _⟩ => ⟨S256x1x5120, .f32⟩
  | .hbm, ⟨22, _⟩ => ⟨S256x1x5120, .bf16⟩
  | .hbm, ⟨23, _⟩ => ⟨S_, .i32⟩
  | .hbm, ⟨24, _⟩ => ⟨S40x3456, .i32⟩
  | .hbm, ⟨25, _⟩ => ⟨S40x3456, .i32⟩
  | .hbm, ⟨26, _⟩ => ⟨S_, .i32⟩
  | .hbm, ⟨27, _⟩ => ⟨S40x3456, .i32⟩
  | .hbm, ⟨28, _⟩ => ⟨S40x3456, .i32⟩
  | .hbm, ⟨29, _⟩ => ⟨S_, .i32⟩
  | .hbm, ⟨30, _⟩ => ⟨S40x3456, .i32⟩
  | .hbm, ⟨31, _⟩ => ⟨S40x3456, .i32⟩
  | .hbm, ⟨32, _⟩ => ⟨S_, .i32⟩
  | .hbm, ⟨33, _⟩ => ⟨S40x3456, .i32⟩
  | .hbm, ⟨34, _⟩ => ⟨S40x3456, .i32⟩
  | .hbm, ⟨35, _⟩ => ⟨S_, .i32⟩
  | .hbm, ⟨36, _⟩ => ⟨S40x3456, .i32⟩
  | .hbm, ⟨37, _⟩ => ⟨S40x3456, .i32⟩
  | .hbm, ⟨38, _⟩ => ⟨S_, .i32⟩
  | .hbm, ⟨39, _⟩ => ⟨S40x3456, .i32⟩
  | .hbm, ⟨40, _⟩ => ⟨S40x3456, .i32⟩
  | .hbm, ⟨41, _⟩ => ⟨S_, .i32⟩
  | .hbm, ⟨42, _⟩ => ⟨S40x3456, .i32⟩
  | .hbm, ⟨43, _⟩ => ⟨S40x3456, .i32⟩
  | .hbm, ⟨44, _⟩ => ⟨S_, .i32⟩
  | .hbm, ⟨45, _⟩ => ⟨S40x3456, .i32⟩
  | .hbm, ⟨46, _⟩ => ⟨S40x3456, .i32⟩
  | .hbm, ⟨47, _⟩ => ⟨S_, .i32⟩
  | .hbm, ⟨48, _⟩ => ⟨S40x3456, .i32⟩
  | .hbm, ⟨49, _⟩ => ⟨S40x3456, .i32⟩
  | .hbm, ⟨50, _⟩ => ⟨S_, .i32⟩
  | .hbm, ⟨51, _⟩ => ⟨S40x3456, .i32⟩
  | .hbm, ⟨52, _⟩ => ⟨S40x3456, .i32⟩
  | .hbm, ⟨53, _⟩ => ⟨S_, .i32⟩
  | .hbm, ⟨54, _⟩ => ⟨S40x3456, .i32⟩
  | .hbm, ⟨55, _⟩ => ⟨S40x3456, .i32⟩
  | .hbm, ⟨56, _⟩ => ⟨S_, .i32⟩
  | .hbm, ⟨57, _⟩ => ⟨S40x3456, .i32⟩
  | .hbm, ⟨58, _⟩ => ⟨S40x3456, .i32⟩
  | .hbm, ⟨59, _⟩ => ⟨S_, .i32⟩
  | .hbm, ⟨60, _⟩ => ⟨S40x3456, .i32⟩
  | .hbm, ⟨61, _⟩ => ⟨S40x3456, .i32⟩
  | .hbm, ⟨62, _⟩ => ⟨S_, .i32⟩
  | .hbm, ⟨63, _⟩ => ⟨S40x3456, .i32⟩
  | .hbm, ⟨64, _⟩ => ⟨S40x3456, .i32⟩
  | .hbm, ⟨65, _⟩ => ⟨S_, .i32⟩
  | .hbm, ⟨66, _⟩ => ⟨S40x3456, .i32⟩
  | .hbm, ⟨67, _⟩ => ⟨S40x3456, .i32⟩
  | .hbm, ⟨68, _⟩ => ⟨S_, .i32⟩
  | .hbm, ⟨69, _⟩ => ⟨S40x3456, .i32⟩
  | .hbm, ⟨70, _⟩ => ⟨S40x3456, .i32⟩
  | .hbm, ⟨71, _⟩ => ⟨S40x3456x1, .i32⟩
  | .hbm, ⟨72, _⟩ => ⟨S40x3456x1, .i32⟩
  | .hbm, ⟨73, _⟩ => ⟨S40x3456x1, .i32⟩
  | .hbm, ⟨74, _⟩ => ⟨S40x3456x1, .i32⟩
  | .hbm, ⟨75, _⟩ => ⟨S40x3456x1, .i32⟩
  | .hbm, ⟨76, _⟩ => ⟨S40x3456x1, .i32⟩
  | .hbm, ⟨77, _⟩ => ⟨S40x3456x1, .i32⟩
  | .hbm, ⟨78, _⟩ => ⟨S40x3456x1, .i32⟩
  | .hbm, ⟨79, _⟩ => ⟨S40x3456x8, .i32⟩
  | .hbm, ⟨80, _⟩ => ⟨S40x27648, .i32⟩
  | .hbm, ⟨81, _⟩ => ⟨S40x27648, .bf16⟩
  | .hbm, ⟨82, _⟩ => ⟨S8, .i32⟩
  | .hbm, ⟨83, _⟩ => ⟨S_, .i32⟩
  | .hbm, ⟨84, _⟩ => ⟨S8, .i32⟩
  | .hbm, ⟨85, _⟩ => ⟨S8, .i32⟩
  | .hbm, ⟨86, _⟩ => ⟨S1x8x1, .i32⟩
  | .hbm, ⟨87, _⟩ => ⟨S640x1x27648, .i32⟩
  | .hbm, ⟨88, _⟩ => ⟨S640x8x27648, .i32⟩
  | .hbm, ⟨89, _⟩ => ⟨S640x8x27648, .i32⟩
  | .hbm, ⟨90, _⟩ => ⟨S640x8x27648, .i32⟩
  | .hbm, ⟨91, _⟩ => ⟨S_, .i32⟩
  | .hbm, ⟨92, _⟩ => ⟨S640x8x27648, .i32⟩
  | .hbm, ⟨93, _⟩ => ⟨S640x8x27648, .i32⟩
  | .hbm, ⟨94, _⟩ => ⟨S640x8x27648, .bf16⟩
  | .hbm, ⟨95, _⟩ => ⟨S40x16x8x27648, .bf16⟩
  | .hbm, ⟨96, _⟩ => ⟨S40x1x1x27648, .bf16⟩
  | .hbm, ⟨97, _⟩ => ⟨S40x16x8x27648, .bf16⟩
  | .hbm, ⟨98, _⟩ => ⟨S40x16x8x27648, .bf16⟩
  | .hbm, ⟨99, _⟩ => ⟨S40x1x1x27648, .bf16⟩
  | .hbm, ⟨100, _⟩ => ⟨S40x16x8x27648, .bf16⟩
  | .hbm, ⟨101, _⟩ => ⟨S40x16x8x27648, .bf16⟩
  | .hbm, ⟨102, _⟩ => ⟨S5120x27648, .bf16⟩
  | .hbm, ⟨103, _⟩ => ⟨S256x1x27648, .f32⟩
  | .hbm, ⟨104, _⟩ => ⟨S256x1x27648, .bf16⟩
  | .hbm, ⟨105, _⟩ => ⟨S256x27648, .bf16⟩
  | _, _ => ⟨S256x1x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c : Ref sig .tc := ⟨.hbm, 23, rfl⟩
abbrev main_v15 : Ref sig .tc := ⟨.hbm, 24, rfl⟩
abbrev main_v16 : Ref sig .tc := ⟨.hbm, 25, rfl⟩
abbrev main_c_2 : Ref sig .tc := ⟨.hbm, 26, rfl⟩
abbrev main_v17 : Ref sig .tc := ⟨.hbm, 27, rfl⟩
abbrev main_v18 : Ref sig .tc := ⟨.hbm, 28, rfl⟩
abbrev main_c_3 : Ref sig .tc := ⟨.hbm, 29, rfl⟩
abbrev main_v19 : Ref sig .tc := ⟨.hbm, 30, rfl⟩
abbrev main_v20 : Ref sig .tc := ⟨.hbm, 31, rfl⟩
abbrev main_c_4 : Ref sig .tc := ⟨.hbm, 32, rfl⟩
abbrev main_v21 : Ref sig .tc := ⟨.hbm, 33, rfl⟩
abbrev main_v22 : Ref sig .tc := ⟨.hbm, 34, rfl⟩
abbrev main_c_5 : Ref sig .tc := ⟨.hbm, 35, rfl⟩
abbrev main_v23 : Ref sig .tc := ⟨.hbm, 36, rfl⟩
abbrev main_v24 : Ref sig .tc := ⟨.hbm, 37, rfl⟩
abbrev main_c_6 : Ref sig .tc := ⟨.hbm, 38, rfl⟩
abbrev main_v25 : Ref sig .tc := ⟨.hbm, 39, rfl⟩
abbrev main_v26 : Ref sig .tc := ⟨.hbm, 40, rfl⟩
abbrev main_c_7 : Ref sig .tc := ⟨.hbm, 41, rfl⟩
abbrev main_v27 : Ref sig .tc := ⟨.hbm, 42, rfl⟩
abbrev main_v28 : Ref sig .tc := ⟨.hbm, 43, rfl⟩
abbrev main_c_8 : Ref sig .tc := ⟨.hbm, 44, rfl⟩
abbrev main_v29 : Ref sig .tc := ⟨.hbm, 45, rfl⟩
abbrev main_v30 : Ref sig .tc := ⟨.hbm, 46, rfl⟩
abbrev main_c_9 : Ref sig .tc := ⟨.hbm, 47, rfl⟩
abbrev main_v31 : Ref sig .tc := ⟨.hbm, 48, rfl⟩
abbrev main_v32 : Ref sig .tc := ⟨.hbm, 49, rfl⟩
abbrev main_c_10 : Ref sig .tc := ⟨.hbm, 50, rfl⟩
abbrev main_v33 : Ref sig .tc := ⟨.hbm, 51, rfl⟩
abbrev main_v34 : Ref sig .tc := ⟨.hbm, 52, rfl⟩
abbrev main_c_11 : Ref sig .tc := ⟨.hbm, 53, rfl⟩
abbrev main_v35 : Ref sig .tc := ⟨.hbm, 54, rfl⟩
abbrev main_v36 : Ref sig .tc := ⟨.hbm, 55, rfl⟩
abbrev main_c_12 : Ref sig .tc := ⟨.hbm, 56, rfl⟩
abbrev main_v37 : Ref sig .tc := ⟨.hbm, 57, rfl⟩
abbrev main_v38 : Ref sig .tc := ⟨.hbm, 58, rfl⟩
abbrev main_c_13 : Ref sig .tc := ⟨.hbm, 59, rfl⟩
abbrev main_v39 : Ref sig .tc := ⟨.hbm, 60, rfl⟩
abbrev main_v40 : Ref sig .tc := ⟨.hbm, 61, rfl⟩
abbrev main_c_14 : Ref sig .tc := ⟨.hbm, 62, rfl⟩
abbrev main_v41 : Ref sig .tc := ⟨.hbm, 63, rfl⟩
abbrev main_v42 : Ref sig .tc := ⟨.hbm, 64, rfl⟩
abbrev main_c_15 : Ref sig .tc := ⟨.hbm, 65, rfl⟩
abbrev main_v43 : Ref sig .tc := ⟨.hbm, 66, rfl⟩
abbrev main_v44 : Ref sig .tc := ⟨.hbm, 67, rfl⟩
abbrev main_c_16 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_c_17 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_c_18 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩

abbrev nD : Nat := 1
abbrev τ : Topo := Topo.v7x

variable {F : FTy → Type} [FloatOps F]
-- ==== Proof.Pieces.lean ====
/-
  The kernel body's stores, written once for all its unrolled steps: the dequantised weight tile of one contraction
  step, the product of one step, the repeated zero words, the normalised and permuted activations; and the lists of
  pieces the body leaves in its scratch buffers as recursions over the step.
-/
module

public import proofs.«01_k».proof.Proof.Gen.KernelIdeal.Value

@[expose] public section

set_option maxRecDepth 16384

noncomputable section

namespace Cert.KernelIdeal.Steps

open Idealize.ShloMosaic Idealize.SL.Sem Cert.KernelIdeal Cert.KernelIdeal.Gen

variable {F : FTy → Type} [FloatOps F]

/-! ## The values of one step -/

/-- The zero words of 128 columns: lane `l` of the chunk reads word `b + l / 8`, shifts out its field `l % 8`, and holds
    the field twice, as the two bf16 numbers `128 + field`. -/
def zeroWords (b : BitVec 32) (x : Vec F S40x128 .i32) : IVec S40x128 32 :=
  have lane : IVec S1x128 32 := iota .tc S1x128 32 [1] iota_S1x128_d1_w32
  have w : IVec S1x128 32 := addi (broadcast S1x128 b) (shrsi lane (broadcast S1x128 3#32))
  have wb : IVec S40x128 32 := broadcastTo S40x128 (shapeCast S1x128 w shapeCasts_S1x128_S1x128) broadcasts_S1x128_S40x128
  have ws : IVec S40x128 32 := select (cmpi .slt wb (broadcast S40x128 0#32)) (addi wb (broadcast S40x128 128#32)) wb
  have ix : IVec S40x128 32 := shapeCast S40x128 (shapeCast S40x128x1 ws shapeCasts_S40x128_S40x128x1) shapeCasts_S40x128x1_S40x128
  have g : IVec S40x128 32 := dynamicGather 1 x ix
  have sh : IVec S1x128 32 := muli (broadcast S1x128 4#32) (andi lane (broadcast S1x128 7#32))
  have shb : IVec S40x128 32 := broadcastTo S40x128 (shapeCast S1x128 sh shapeCasts_S1x128_S1x128) broadcasts_S1x128_S40x128
  have z : IVec S40x128 32 := andi (shrui g shb) (broadcast S40x128 15#32)
  have o : IVec S40x128 32 := ori (ori (broadcast S40x128 1124090624#32) z) (shli z (broadcast S40x128 16#32))
  shapeCast S40x128 o shapeCasts_S40x128_S40x128

/-- Sixteen copies of a row. -/
def rows16 (x : FVec F S1x1024 .bf16) : FVec F S16x1024 .bf16 :=
  concatenate S16x1024 0 [⟨S1x1024, x⟩, ⟨S1x1024, x⟩, ⟨S1x1024, x⟩, ⟨S1x1024, x⟩, ⟨S1x1024, x⟩, ⟨S1x1024, x⟩, ⟨S1x1024, x⟩, ⟨S1x1024, x⟩,
      ⟨S1x1024, x⟩, ⟨S1x1024, x⟩, ⟨S1x1024, x⟩, ⟨S1x1024, x⟩, ⟨S1x1024, x⟩, ⟨S1x1024, x⟩, ⟨S1x1024, x⟩, ⟨S1x1024, x⟩]
    concatenates_S1x1024_S1x1024_S1x1024_S1x1024_S1x1024_S1x1024_S1x1024_S1x1024_S1x1024_S1x1024_S1x1024_S1x1024_S1x1024_S1x1024_S1x1024_S1x1024_S16x1024_d0

/-- A group's row of scale words, each word a pair of bf16 numbers, as 32 rows of bf16. -/
def scaleRows (s : Vec F S1x2x1024 .bf16) : FVec F S32x1024 .bf16 :=
  interleaveRows S32x1024
    (rows16 (shapeCast S1x1024 (rowsOfParity 0 S1x1x1024 s bitcasts_S1x2x1024_w16_S1x1x1024_w32) shapeCasts_S1x1x1024_S1x1024))
    (rows16 (shapeCast S1x1024 (rowsOfParity 1 S1x1x1024 s bitcasts_S1x2x1024_w16_S1x1x1024_w32) shapeCasts_S1x1x1024_S1x1024))
    bitcasts_S32x1024_w16_S16x1024_w32

/-- A group's zero row, as 32 equal rows of bf16. -/
def zeroRows (z : Vec F S1x1024 .i32) : FVec F S32x1024 .bf16 :=
  bitcastToFloat .bf16 (bitcast S32x1024 16 (broadcastTo S16x1024 (shapeCast S1x1024 z shapeCasts_S1x1024_S1x1024) broadcasts_S1x1024_S16x1024)
    bitcasts_S16x1024_w32_S32x1024_w16)

/-- The 32 rows of a group whose codes stand at shift `sh` of each half word: `(code - zero) * scale`. -/
def part (sh : BitVec 32) (q : Vec F S16x1024 .i32) (s : Vec F S1x2x1024 .bf16) (z : Vec F S1x1024 .i32) : FVec F S32x1024 .bf16 :=
  mulf (subf (bitcastToFloat .bf16 (bitcast S32x1024 16 (ori (andi (shrui q (broadcast S16x1024 sh)) (broadcast S16x1024 983055#32))
    (broadcast S16x1024 1124090624#32)) bitcasts_S16x1024_w32_S32x1024_w16)) (zeroRows z)) (scaleRows s)

/-- The weight tile of one contraction step: two groups, each its four shifts in turn. -/
def weights (q : ℕ → Vec F S16x1024 .i32) (s : ℕ → Vec F S1x2x1024 .bf16) (z : ℕ → Vec F S1x1024 .i32) (n : ℕ) : FVec F S256x1024 .bf16 :=
  concatenate S256x1024 0 [
    ⟨S32x1024, part 0#32 (q (2 * n)) (s (2 * n)) (z (2 * n))⟩, ⟨S32x1024, part 4#32 (q (2 * n)) (s (2 * n)) (z (2 * n))⟩,
    ⟨S32x1024, part 8#32 (q (2 * n)) (s (2 * n)) (z (2 * n))⟩, ⟨S32x1024, part 12#32 (q (2 * n)) (s (2 * n)) (z (2 * n))⟩,
    ⟨S32x1024, part 0#32 (q (2 * n + 1)) (s (2 * n + 1)) (z (2 * n + 1))⟩, ⟨S32x1024, part 4#32 (q (2 * n + 1)) (s (2 * n + 1)) (z (2 * n + 1))⟩,
    ⟨S32x1024, part 8#32 (q (2 * n + 1)) (s (2 * n + 1)) (z (2 * n + 1))⟩, ⟨S32x1024, part 12#32 (q (2 * n + 1)) (s (2 * n + 1)) (z (2 * n + 1))⟩]
    concatenates_S32x1024_S32x1024_S32x1024_S32x1024_S32x1024_S32x1024_S32x1024_S32x1024_S256x1024_d0

/-- The product of contraction step `n`. -/
def product (h : ℕ → Vec F S256x256 .bf16) (q : ℕ → Vec F S16x1024 .i32) (s : ℕ → Vec F S1x2x1024 .bf16) (z : ℕ → Vec F S1x1024 .i32) (n : ℕ) :
    FVec F S256x1024 .f32 :=
  matmul dot_S256x256_S256x1024_S256x1024_1_0_0_1_n_n none (h n) (weights q s z n) (constant S256x1024 .f32 0x00000000#32)

/-- The accumulator after contraction step `n`. -/
def accum (h : ℕ → Vec F S256x256 .bf16) (q : ℕ → Vec F S16x1024 .i32) (s : ℕ → Vec F S1x2x1024 .bf16) (z : ℕ → Vec F S1x1024 .i32) :
    ℕ → Vec F S256x1024 .f32
  | 0 => shapeCast S256x1024 (product h q s z 0) shapeCasts_S256x1024_S256x1024
  | n + 1 => shapeCast S256x1024 (addf (accum h q s z n) (product h q s z (n + 1))) shapeCasts_S256x1024_S256x1024

/-- 128 columns of the normalised activations, their lanes permuted. -/
def normed (r : FVec F S256x1 .f32) (x : Vec F S256x128 .bf16) (g : Vec F S1x128 .f32) : FVec F S256x128 .bf16 :=
  have y : FVec F S256x128 .f32 := mulf (mulf (extf .f32 (shapeCast S256x128 x shapeCasts_S256x128_S256x128) bitsLt_bf16_f32)
      (broadcastTo S256x128 r broadcasts_S256x1_S256x128))
    (broadcastTo S256x128 (shapeCast S1x128 g shapeCasts_S1x128_S1x128) broadcasts_S1x128_S256x128)
  have i : IVec S256x128 32 := broadcastTo S256x128 (shapeCast S1x128 k0_pay4 shapeCasts_S1x128_S1x128) broadcasts_S1x128_S256x128
  have j : IVec S256x128 32 := select (cmpi .slt i (broadcast S256x128 0#32)) (addi i (broadcast S256x128 128#32)) i
  have k : IVec S256x128 32 := shapeCast S256x128 (shapeCast S256x128x1 j shapeCasts_S256x128_S256x128x1) shapeCasts_S256x128x1_S256x128
  shapeCast S256x128 (truncf .bf16 (dynamicGather 1 (extf .f32 (truncf .bf16 y bitsLt_bf16_f32) bitsLt_bf16_f32) k) bitsLt_bf16_f32) shapeCasts_S256x128_S256x128

/-! ## The boxes the body reads and writes -/

/-- A box of `T` whole rows from row `n` lies inside an array of `R` rows. -/
theorem inb_rows {R C T n : ℕ} (hn : n + T ≤ R) : ∀ a, (![n, 0] : Fin 2 → ℕ) a + (⟨2, ![T, C]⟩ : Shape).size a ≤ (⟨2, ![R, C]⟩ : Shape).size a := by
  intro a; fin_cases a
  · exact hn
  · show 0 + C ≤ C; omega

/-- A box of `T` whole columns from column `n` lies inside an array of `C` columns. -/
theorem inb_cols {R C T n : ℕ} (hn : n + T ≤ C) : ∀ a, (![0, n] : Fin 2 → ℕ) a + (⟨2, ![R, T]⟩ : Shape).size a ≤ (⟨2, ![R, C]⟩ : Shape).size a := by
  intro a; fin_cases a
  · show 0 + R ≤ R; omega
  · exact hn

/-- A box of one pair row `n` lies inside the scale words. -/
theorem inb_pair {n : ℕ} (hn : n < 40) : ∀ a, (![n, 0, 0] : Fin 3 → ℕ) a + S1x2x1024.size a ≤ S40x2x1024.size a := by
  intro a; fin_cases a
  · exact hn
  · exact le_rfl
  · exact le_rfl

/-- The 16 word rows of group `g`. -/
def boxQ (g : ℕ) : Rect S640x1024 := Rect.unit ![16 * (g % 40), 0] S16x1024.size (inb_rows (by omega))
/-- Row `g` of a 40-row buffer. -/
def boxRow (g : ℕ) : Rect S40x1024 := Rect.unit ![g % 40, 0] S1x1024.size (inb_rows (by omega))
/-- Pair row `g` of the scale words. -/
def boxPair (g : ℕ) : Rect S40x2x1024 := Rect.unit ![g % 40, 0, 0] S1x2x1024.size (inb_pair (by omega))
/-- The 256 activation columns of contraction step `n`. -/
def boxH (n : ℕ) : Rect S256x5120 := Rect.unit ![0, 256 * (n % 20)] S256x256.size (inb_cols (by omega))
/-- The 128 activation columns of chunk `n`. -/
def boxX (n : ℕ) : Rect S256x5120 := Rect.unit ![0, 128 * (n % 40)] S256x128.size (inb_cols (by omega))
/-- The 128 gain columns of chunk `n`. -/
def boxG (n : ℕ) : Rect S1x5120 := Rect.unit ![0, 128 * (n % 40)] S1x128.size (inb_cols (by omega))
/-- The 128 zero-word columns of chunk `n`. -/
def boxZ (n : ℕ) : Rect S40x1024 := Rect.unit ![0, 128 * (n % 8)] S40x128.size (inb_cols (by omega))

/-! ## The pieces in each scratch buffer -/

/-- The accumulator's pieces after step `n`, last first: each step reads the accumulator back and stores the sum. -/
def accPieces (v : View sig .tc .vmem S256x1024 .f32) (h : ℕ → Vec F S256x256 .bf16) (q : ℕ → Vec F S16x1024 .i32)
    (s : ℕ → Vec F S1x2x1024 .bf16) (z : ℕ → Vec F S1x1024 .i32) : ℕ → List (View.Piece (Elt F) S256x1024 .f32)
  | 0 => [⟨Rect.unit ![0, 0] S256x1024.size inb_S256x1024_S256x1024_0_0,
      shapeCast S256x1024 (product h q s z 0) shapeCasts_S256x1024_S256x1024⟩]
  | n + 1 => ⟨Rect.unit ![0, 0] S256x1024.size inb_S256x1024_S256x1024_0_0,
      shapeCast S256x1024 (addf (v.readCov (accPieces v h q s z n) (Rect.unit ![0, 0] S256x1024.size inb_S256x1024_S256x1024_0_0).toLoadRect)
        (product h q s z (n + 1))) shapeCasts_S256x1024_S256x1024⟩ :: accPieces v h q s z n

/-- The first `n` pieces of the zero words, last first. -/
def zeroPieces (x : Vec F S40x128 .i32) : ℕ → List (View.Piece (Elt F) S40x1024 .i32)
  | 0 => []
  | n + 1 => ⟨boxZ n, zeroWords (F := F) (BitVec.ofNat 32 (16 * n)) x⟩ :: zeroPieces x n

/-- The first `n` pieces of the normalised activations, last first. -/
def normPieces (r : FVec F S256x1 .f32) (x : ℕ → Vec F S256x128 .bf16) (g : ℕ → Vec F S1x128 .f32) : ℕ → List (View.Piece (Elt F) S256x5120 .bf16)
  | 0 => []
  | n + 1 => ⟨boxX n, normed r (x n) (g n)⟩ :: normPieces r x g n

end Cert.KernelIdeal.Steps
-- ==== Proof.PiecesA.lean ====
/-
  The pieces that the body's unrolled stores leave in its scratch buffers at the first grid point, as the recursions of
  Pieces.lean.
-/
module

public import proofs.«01_k».proof.Proof.Pieces

@[expose] public section

set_option maxRecDepth 16384

noncomputable section

namespace Cert.KernelIdeal.Steps

open Idealize.ShloMosaic Idealize.ShloMosaic.TcCoe Idealize.SL.Sem Cert.KernelIdeal Cert.KernelIdeal.Gen

variable {F : FTy → Type} [FloatOps F]

/-- The eight stores of zero words, at the first point. -/
theorem zeroPieces_A (c : Dev nD) (arg5 : Memref sig .tc .vmem S40x128 .i32) (harg5 : arg5.IsWhole) (x4 : Vec F S40x128 .i32) :
    kernelRun0_A.sl.HS2_8 c arg5 harg5 x4
      = zeroPieces (View.readAt (Elt F) arg5.view (Rect.unit ![0, 0] S40x128.size inb_S40x128_S40x128_0_0).toLoadRect (harg5.unread x4)) 8 := by
  sl_kernel_rfl

/-- The forty stores of normalised and permuted activations. -/
theorem normPieces_A (c : Dev nD) (arg1 : Memref sig .tc .vmem S256x5120 .bf16) (harg1 : arg1.IsWhole) (arg2 : Memref sig .tc .vmem S1x5120 .f32) (harg2 : arg2.IsWhole)
    (x0 : Vec F S256x5120 .bf16) (x1 : Vec F S1x5120 .f32) :
    kernelRun0_A.sl.HS0_40 c arg1 harg1 arg2 harg2 x0 x1
      = normPieces (k0_pay3 (View.readAt (Elt F) arg1.view (Rect.unit ![0, 0] S256x5120.size inb_S256x5120_S256x5120_0_0).toLoadRect (harg1.unread x0)))
          (fun n => View.readAt (Elt F) arg1.view (boxX n).toLoadRect (harg1.unread x0))
          (fun n => View.readAt (Elt F) arg2.view (boxG n).toLoadRect (harg2.unread x1)) 40 := by
  sl_kernel_rfl

/-- The twenty stores into the accumulator, at the first point; each step's operands are loads of the staged
    blocks and of the scratch buffers. -/
theorem accPieces_A (c : Dev nD) (arg1 : Memref sig .tc .vmem S256x5120 .bf16) (harg1 : arg1.IsWhole) (arg2 : Memref sig .tc .vmem S1x5120 .f32) (harg2 : arg2.IsWhole)
    (arg3 : Memref sig .tc .vmem S640x1024 .i32) (harg3 : arg3.IsWhole) (arg4 : Memref sig .tc .vmem S40x1024 .bf16) (harg4 : arg4.IsWhole)
    (arg5 : Memref sig .tc .vmem S40x128 .i32) (harg5 : arg5.IsWhole) (arg7 : Memref sig .tc .vmem S256x5120 .bf16)
    (arg8 : Memref sig .tc .vmem S40x2x1024 .bf16) (arg9 : Memref sig .tc .vmem S40x1024 .i32) (arg10 : Memref sig .tc .vmem S256x1024 .f32)
    (x0 : Vec F S256x5120 .bf16) (x1 : Vec F S1x5120 .f32)
    (x2 : Vec F S640x1024 .i32) (x3 : Vec F S40x1024 .bf16) (x4 : Vec F S40x128 .i32) :
    kernelRun0_A.sl.HS3_20 c arg1 harg1 arg2 harg2 arg3 harg3 arg4 harg4 arg5 harg5 arg7 arg8 arg9 arg10 x0 x1 x2 x3 x4
      = accPieces arg10.view (fun n => arg7.view.readCov (kernelRun0_A.sl.HS0_40 c arg1 harg1 arg2 harg2 x0 x1) (boxH n).toLoadRect)
          (fun g => View.readAt (Elt F) arg3.view (boxQ g).toLoadRect (harg3.unread x2))
          (fun g => arg8.view.readCov (kernelRun0_A.sl.HS1_1 c arg4 harg4 x3) (boxPair g).toLoadRect)
          (fun g => arg9.view.readCov (kernelRun0_A.sl.HS2_8 c arg5 harg5 x4) (boxRow g).toLoadRect) 19 := by
  sl_kernel_rfl

end Cert.KernelIdeal.Steps
-- ==== Proof.PiecesB.lean ====
/-
  The pieces that the body's unrolled stores leave in its scratch buffers at a later grid point, as the recursions of
  Pieces.lean.
-/
module

public import proofs.«01_k».proof.Proof.Pieces

@[expose] public section

set_option maxRecDepth 16384

noncomputable section

namespace Cert.KernelIdeal.Steps

open Idealize.ShloMosaic Idealize.ShloMosaic.TcCoe Idealize.SL.Sem Cert.KernelIdeal Cert.KernelIdeal.Gen

variable {F : FTy → Type} [FloatOps F]

/-- The eight stores of zero words, at a later point. -/
theorem zeroPieces_B (c : Dev nD) (arg5 : Memref sig .tc .vmem S40x128 .i32) (harg5 : arg5.IsWhole) (x4 : Vec F S40x128 .i32) :
    kernelRun0_B.sl.HS2_8 c arg5 harg5 x4
      = zeroPieces (View.readAt (Elt F) arg5.view (Rect.unit ![0, 0] S40x128.size inb_S40x128_S40x128_0_0).toLoadRect (harg5.unread x4)) 8 := by
  sl_kernel_rfl

/-- The twenty stores into the accumulator, at a later point; each step's operands are loads of the staged
    blocks and of the scratch buffers. -/
theorem accPieces_B (c : Dev nD) (arg3 : Memref sig .tc .vmem S640x1024 .i32) (harg3 : arg3.IsWhole) (arg4 : Memref sig .tc .vmem S40x1024 .bf16) (harg4 : arg4.IsWhole)
    (arg5 : Memref sig .tc .vmem S40x128 .i32) (harg5 : arg5.IsWhole) (arg7 : Memref sig .tc .vmem S256x5120 .bf16) (harg7 : arg7.IsWhole)
    (arg8 : Memref sig .tc .vmem S40x2x1024 .bf16) (arg9 : Memref sig .tc .vmem S40x1024 .i32) (arg10 : Memref sig .tc .vmem S256x1024 .f32)
    (x2 : Vec F S640x1024 .i32) (x3 : Vec F S40x1024 .bf16) (x4 : Vec F S40x128 .i32) (xs0 : Vec F S256x5120 .bf16) :
    kernelRun0_B.sl.HS3_20 c arg3 harg3 arg4 harg4 arg5 harg5 arg7 harg7 arg8 arg9 arg10 x2 x3 x4 xs0
      = accPieces arg10.view (fun n => View.readAt (Elt F) arg7.view (boxH n).toLoadRect (harg7.unread xs0))
          (fun g => View.readAt (Elt F) arg3.view (boxQ g).toLoadRect (harg3.unread x2))
          (fun g => arg8.view.readCov (kernelRun0_B.sl.HS1_1 c arg4 harg4 x3) (boxPair g).toLoadRect)
          (fun g => arg9.view.readCov (kernelRun0_B.sl.HS2_8 c arg5 harg5 x4) (boxRow g).toLoadRect) 19 := by
  sl_kernel_rfl

end Cert.KernelIdeal.Steps
-- ==== Proof.Outputs.lean ====
/-
  What one grid point leaves, as a function of its input blocks: the scratch of permuted activations (stored by the
  first point, carried by the rest) and the output block.
-/
module

public import proofs.«01_k».proof.Proof.PiecesA
public import proofs.«01_k».proof.Proof.PiecesB
public import Idealize.ShloMosaic.Lib.Pointwise
public import Idealize.ShloMosaic.Lib.Pipeline.ValueKit

@[expose] public section

set_option maxRecDepth 16384

noncomputable section

namespace Cert.KernelIdeal.Steps

open Idealize.ShloMosaic Idealize.ShloMosaic.TcCoe Idealize.SL.Sem Cert.KernelIdeal Cert.KernelIdeal.Gen

variable {F : FTy → Type} [FloatOps F]

/-! ## The scratch buffers as whole arrays -/

/-- The permuted activations, as one array: chunk `j / 128`, lane `j % 128`. -/
def normedAll (x0 : Vec F S256x5120 .bf16) (x1 : Vec F S1x5120 .f32) : Vec F S256x5120 .bf16 :=
  fun y => normed (k0_pay3 x0) (View.ld x0 (boxX ((y 1).val / 128))) (View.ld x1 (boxG ((y 1).val / 128)))
    (ix2 (y 0) ⟨(y 1).val % 128, Nat.mod_lt _ (by decide)⟩)

/-- The repeated zero words, as one array: chunk `j / 128`, lane `j % 128`. -/
def zeroAll (x4 : Vec F S40x128 .i32) : Vec F S40x1024 .i32 :=
  fun y => zeroWords (F := F) (BitVec.ofNat 32 (16 * ((y 1).val / 128))) x4 (ix2 (y 0) ⟨(y 1).val % 128, Nat.mod_lt _ (by decide)⟩)

/-- The output block of a point whose activations are `hs` and whose weight blocks are `x2`, `x3`, `x4`. -/
def blockOut (hs : Vec F S256x5120 .bf16) (x2 : Vec F S640x1024 .i32) (x3 : Vec F S40x1024 .bf16) (x4 : Vec F S40x128 .i32) :
    Vec F S256x1024 .bf16 :=
  k0_pay2 (accum (fun n => View.ld hs (boxH n)) (fun g => View.ld x2 (boxQ g)) (fun g => View.ld (k0_pay79 x3) (boxPair g))
    (fun g => View.ld (zeroAll x4) (boxRow g)) 19)

/-! ## The pieces read back -/

/-- Reading the accumulator back after step `n` gives its running sum. -/
theorem readCov_accPieces (v : View sig .tc .vmem S256x1024 .f32) (h : ℕ → Vec F S256x256 .bf16) (q : ℕ → Vec F S16x1024 .i32)
    (s : ℕ → Vec F S1x2x1024 .bf16) (z : ℕ → Vec F S1x1024 .i32) (n : ℕ)
    (inb : ∀ a, (![0, 0] : Fin 2 → ℕ) a + S256x1024.size a ≤ S256x1024.size a) :
    v.readCov (accPieces v h q s z n) (Rect.unit ![0, 0] S256x1024.size inb).toLoadRect = accum h q s z n := by
  induction n with
  | zero => exact View.readCov_cons_unit_lit' v _ _ _ _ (by decide) (by decide)
  | succ n ih =>
    refine (View.readCov_cons_unit_lit' v _ _ _ _ (by decide) (by decide)).trans ?_
    rw [accum, ← ih]

/-- Every index of the zero words lies in the box of its chunk. -/
theorem mem_boxZ {y : S40x1024.Idx} : y ∈ (boxZ ((y 1).val / 128)).set := by
  have h0 : (y 0).val < 40 := (y 0).isLt
  have h1 : (y 1).val < 1024 := (y 1).isLt
  refine Rect.mem_set_unit.mpr fun a => ?_
  fin_cases a
  · exact ⟨Nat.zero_le _, by show (y 0).val < 0 + 40; omega⟩
  · exact ⟨by show 128 * ((y 1).val / 128 % 8) ≤ (y 1).val; omega, by show (y 1).val < 128 * ((y 1).val / 128 % 8) + 128; omega⟩

/-- Every index of the activations lies in the box of its chunk. -/
theorem mem_boxX {y : S256x5120.Idx} : y ∈ (boxX ((y 1).val / 128)).set := by
  have h0 : (y 0).val < 256 := (y 0).isLt
  have h1 : (y 1).val < 5120 := (y 1).isLt
  refine Rect.mem_set_unit.mpr fun a => ?_
  fin_cases a
  · exact ⟨Nat.zero_le _, by show (y 0).val < 0 + 256; omega⟩
  · exact ⟨by show 128 * ((y 1).val / 128 % 40) ≤ (y 1).val; omega, by show (y 1).val < 128 * ((y 1).val / 128 % 40) + 128; omega⟩

/-- Chunk `k` is among the first `n` pieces of zero words. -/
theorem mem_zeroPieces (x : Vec F S40x128 .i32) {n k : ℕ} (hk : k < n) :
    (⟨boxZ k, zeroWords (F := F) (BitVec.ofNat 32 (16 * k)) x⟩ : View.Piece (Elt F) S40x1024 .i32) ∈ zeroPieces (F := F) x n := by
  induction n with
  | zero => omega
  | succ n ih =>
    rcases Nat.lt_succ_iff_lt_or_eq.mp hk with h | rfl
    · exact List.mem_cons_of_mem _ (ih h)
    · exact List.mem_cons_self ..

/-- Chunk `k` is among the first `n` pieces of activations. -/
theorem mem_normPieces (r : FVec F S256x1 .f32) (x : ℕ → Vec F S256x128 .bf16) (g : ℕ → Vec F S1x128 .f32) {n k : ℕ} (hk : k < n) :
    (⟨boxX k, normed r (x k) (g k)⟩ : View.Piece (Elt F) S256x5120 .bf16) ∈ normPieces r x g n := by
  induction n with
  | zero => omega
  | succ n ih =>
    rcases Nat.lt_succ_iff_lt_or_eq.mp hk with h | rfl
    · exact List.mem_cons_of_mem _ (ih h)
    · exact List.mem_cons_self ..

/-- The eight pieces of zero words make up `zeroAll`. -/
theorem canon_zeroPieces (x : Vec F S40x128 .i32) : View.canon (zeroPieces (F := F) x 8) = zeroAll (F := F) x := by
  funext y
  have h1 : (y 1).val < 1024 := (y 1).isLt
  refine View.canon_apply_of_pieces (zeroAll (F := F) x) _ ?_ y ⟨_, mem_zeroPieces x (show (y 1).val / 128 < 8 by omega), mem_boxZ⟩
  have key : ∀ n ≤ 8, ∀ p ∈ zeroPieces (F := F) x n, ∀ i : p.1.shape.Idx, p.2 i = zeroAll (F := F) x (p.1.emb i) := by
    intro n hn
    induction n with
    | zero => intro p hp; exact absurd hp List.not_mem_nil
    | succ n ih =>
      intro p hp
      rcases List.mem_cons.mp hp with rfl | hp
      · intro i
        have hi : (i 1).val < 128 := (i 1).isLt
        have e0 : ((boxZ n).emb i 0).val = (i 0).val := by show 0 + 1 * (i 0).val = _; omega
        have e1 : ((boxZ n).emb i 1).val = 128 * n + (i 1).val := by show 128 * (n % 8) + 1 * (i 1).val = _; omega
        have hd : ((boxZ n).emb i 1).val / 128 = n := by omega
        show zeroWords (F := F) (BitVec.ofNat 32 (16 * n)) x i = zeroAll (F := F) x ((boxZ n).emb i)
        unfold zeroAll
        rw [hd]
        refine congrArg _ (funext fun a => Fin.ext ?_)
        fin_cases a
        · exact e0.symm
        · show (i 1).val = ((boxZ n).emb i 1).val % 128; omega
      · exact ih (by omega) p hp
  exact key 8 le_rfl

/-- The forty pieces of activations make up one array. -/
theorem canon_normPieces (r : FVec F S256x1 .f32) (x : ℕ → Vec F S256x128 .bf16) (g : ℕ → Vec F S1x128 .f32) :
    View.canon (normPieces r x g 40) = fun y => normed r (x ((y 1).val / 128)) (g ((y 1).val / 128)) (ix2 (y 0) ⟨(y 1).val % 128, Nat.mod_lt _ (by decide)⟩) := by
  funext y
  have h1 : (y 1).val < 5120 := (y 1).isLt
  refine View.canon_apply_of_pieces (fun y => normed r (x ((y 1).val / 128)) (g ((y 1).val / 128)) (ix2 (y 0) ⟨(y 1).val % 128, Nat.mod_lt _ (by decide)⟩))
    _ ?_ y ⟨_, mem_normPieces r x g (show (y 1).val / 128 < 40 by omega), mem_boxX⟩
  have key : ∀ n ≤ 40, ∀ p ∈ normPieces r x g n, ∀ i : p.1.shape.Idx, p.2 i
      = (fun y : S256x5120.Idx => normed r (x ((y 1).val / 128)) (g ((y 1).val / 128)) (ix2 (y 0) ⟨(y 1).val % 128, Nat.mod_lt _ (by decide)⟩)) (p.1.emb i) := by
    intro n hn
    induction n with
    | zero => intro p hp; exact absurd hp List.not_mem_nil
    | succ n ih =>
      intro p hp
      rcases List.mem_cons.mp hp with rfl | hp
      · intro i
        have hi : (i 1).val < 128 := (i 1).isLt
        have e0 : ((boxX n).emb i 0).val = (i 0).val := by show 0 + 1 * (i 0).val = _; omega
        have e1 : ((boxX n).emb i 1).val = 128 * n + (i 1).val := by show 128 * (n % 40) + 1 * (i 1).val = _; omega
        have hd : ((boxX n).emb i 1).val / 128 = n := by omega
        show normed r (x n) (g n) i = normed r (x (((boxX n).emb i 1).val / 128)) (g (((boxX n).emb i 1).val / 128)) _
        rw [hd]
        refine congrArg _ (funext fun a => Fin.ext ?_)
        fin_cases a
        · exact e0.symm
        · show (i 1).val = ((boxX n).emb i 1).val % 128; omega
      · exact ih (by omega) p hp
  exact key 40 le_rfl

/-- A load from a whole staging memref reads the block's contents. -/
theorem load_whole {s : Shape} {e : EltTy} (a : Memref sig .tc .vmem s e) (ha : a.IsWhole) (x : Vec F s e) (r : Rect s) :
    View.readAt (Elt F) a.view r.toLoadRect (ha.unread x) = View.ld x r := by
  rw [View.readAt_eq_ld, ha.read_unread]

/-- A load of the whole array is the array. -/
theorem ld_all {s : Shape} {e : EltTy} (x : Vec F s e) {off : Fin s.rank → ℕ} (inb : ∀ a, off a + s.size a ≤ s.size a) (h : ∀ a, off a = 0) :
    View.ld x (Rect.unit off s.size inb) = x := View.ld_unit_lit' inb x h

/-- The normalised activations' pieces, read back through any box, are `normedAll`. -/
theorem readCov_norm (c : Dev nD) (arg1 : Memref sig .tc .vmem S256x5120 .bf16) (harg1 : arg1.IsWhole) (arg2 : Memref sig .tc .vmem S1x5120 .f32) (harg2 : arg2.IsWhole)
    (x0 : Vec F S256x5120 .bf16) (x1 : Vec F S1x5120 .f32) :
    View.canon (kernelRun0_A.sl.HS0_40 c arg1 harg1 arg2 harg2 x0 x1) = normedAll x0 x1 := by
  rw [normPieces_A]
  refine (canon_normPieces _ _ _).trans (funext fun y => ?_)
  unfold normedAll
  simp only [load_whole]
  rw [ld_all _ _ (by decide)]

/-- The scale scratch at the first point: the block's scales. -/
theorem scales_A (c : Dev nD) (arg4 : Memref sig .tc .vmem S40x1024 .bf16) (harg4 : arg4.IsWhole) (x3 : Vec F S40x1024 .bf16) :
    View.canon (kernelRun0_A.sl.HS1_1 c arg4 harg4 x3) = k0_pay79 x3 := by
  refine (View.canon_cons_unit_lit' _ _ _ (by decide)).trans ?_
  rw [load_whole, ld_all _ _ (by decide)]

/-- The scale scratch at a later point: the block's scales. -/
theorem scales_B (c : Dev nD) (arg4 : Memref sig .tc .vmem S40x1024 .bf16) (harg4 : arg4.IsWhole) (x3 : Vec F S40x1024 .bf16) :
    View.canon (kernelRun0_B.sl.HS1_1 c arg4 harg4 x3) = k0_pay79 x3 := scales_A c arg4 harg4 x3

/-- The zero scratch at the first point: `zeroAll` of the block's zero words. -/
theorem zeros_A (c : Dev nD) (arg5 : Memref sig .tc .vmem S40x128 .i32) (harg5 : arg5.IsWhole) (x4 : Vec F S40x128 .i32) :
    View.canon (kernelRun0_A.sl.HS2_8 c arg5 harg5 x4) = zeroAll (F := F) x4 := by
  rw [zeroPieces_A, load_whole, ld_all _ _ (by decide), canon_zeroPieces]

/-- The zero scratch at a later point: `zeroAll` of the block's zero words. -/
theorem zeros_B (c : Dev nD) (arg5 : Memref sig .tc .vmem S40x128 .i32) (harg5 : arg5.IsWhole) (x4 : Vec F S40x128 .i32) :
    View.canon (kernelRun0_B.sl.HS2_8 c arg5 harg5 x4) = zeroAll (F := F) x4 := by
  rw [zeroPieces_B, load_whole, ld_all _ _ (by decide), canon_zeroPieces]

/-! ## What the two cases of a grid point leave -/

/-- The first point leaves the permuted activations in the carried scratch. -/
theorem sout_A (c : Dev nD) (i : grid0.Coords) (arg1 : Memref sig .tc .vmem S256x5120 .bf16) (harg1 : arg1.IsWhole) (arg2 : Memref sig .tc .vmem S1x5120 .f32) (harg2 : arg2.IsWhole)
    (arg3 : Memref sig .tc .vmem S640x1024 .i32) (harg3 : arg3.IsWhole) (arg4 : Memref sig .tc .vmem S40x1024 .bf16) (harg4 : arg4.IsWhole)
    (arg5 : Memref sig .tc .vmem S40x128 .i32) (harg5 : arg5.IsWhole) (arg6 : Memref sig .tc .vmem S256x1024 .bf16) (harg6 : arg6.IsWhole)
    (arg7 : Memref sig .tc .vmem S256x5120 .bf16) (harg7 : arg7.IsWhole) (arg8 : Memref sig .tc .vmem S40x2x1024 .bf16) (harg8 : arg8.IsWhole)
    (arg9 : Memref sig .tc .vmem S40x1024 .i32) (harg9 : arg9.IsWhole) (arg10 : Memref sig .tc .vmem S256x1024 .f32) (harg10 : arg10.IsWhole)
 (hc0 : cond0_0 i)
    (x0 : Vec F S256x5120 .bf16) (x1 : Vec F S1x5120 .f32) (x2 : Vec F S640x1024 .i32) (x3 : Vec F S40x1024 .bf16) (x4 : Vec F S40x128 .i32) :
    sout0_A_0 c i arg1 harg1 arg2 harg2 arg3 harg3 arg4 harg4 arg5 harg5 arg6 harg6 arg7 harg7 arg8 harg8 arg9 harg9 arg10 harg10 hc0 x0 x1 x2 x3 x4 = normedAll x0 x1 := by
  refine (View.read_writes_junk_eq_canon _ _).trans ?_
  exact readCov_norm c arg1 harg1 arg2 harg2 x0 x1

/-- The first point's output block, from the activations it just stored. -/
theorem out_A (c : Dev nD) (i : grid0.Coords) (arg1 : Memref sig .tc .vmem S256x5120 .bf16) (harg1 : arg1.IsWhole) (arg2 : Memref sig .tc .vmem S1x5120 .f32) (harg2 : arg2.IsWhole)
    (arg3 : Memref sig .tc .vmem S640x1024 .i32) (harg3 : arg3.IsWhole) (arg4 : Memref sig .tc .vmem S40x1024 .bf16) (harg4 : arg4.IsWhole)
    (arg5 : Memref sig .tc .vmem S40x128 .i32) (harg5 : arg5.IsWhole) (arg6 : Memref sig .tc .vmem S256x1024 .bf16) (harg6 : arg6.IsWhole)
    (arg7 : Memref sig .tc .vmem S256x5120 .bf16) (harg7 : arg7.IsWhole) (arg8 : Memref sig .tc .vmem S40x2x1024 .bf16) (harg8 : arg8.IsWhole)
    (arg9 : Memref sig .tc .vmem S40x1024 .i32) (harg9 : arg9.IsWhole) (arg10 : Memref sig .tc .vmem S256x1024 .f32) (harg10 : arg10.IsWhole)
 (hc0 : cond0_0 i)
    (x0 : Vec F S256x5120 .bf16) (x1 : Vec F S1x5120 .f32) (x2 : Vec F S640x1024 .i32) (x3 : Vec F S40x1024 .bf16) (x4 : Vec F S40x128 .i32) :
    out0_A_5 c i arg1 harg1 arg2 harg2 arg3 harg3 arg4 harg4 arg5 harg5 arg6 harg6 arg7 harg7 arg8 harg8 arg9 harg9 arg10 harg10 hc0 x0 x1 x2 x3 x4 = blockOut (normedAll x0 x1) x2 x3 x4 := by
  refine (View.read_writes_junk_eq_canon _ _).trans ?_
  refine (View.canon_cons_unit_lit' _ _ _ (by decide)).trans ?_
  refine congrArg k0_pay2 ?_
  refine (congrArg (fun L => arg10.view.readCov L _) (accPieces_A c arg1 harg1 arg2 harg2 arg3 harg3 arg4 harg4 arg5 harg5 arg7 arg8 arg9 arg10 x0 x1 x2 x3 x4)).trans ?_
  refine (readCov_accPieces _ _ _ _ _ _ _).trans ?_
  simp only [load_whole, View.readCov_eq_canon', readCov_norm, scales_A, zeros_A]

/-- A later point's output block, from the activations the scratch carries. -/
theorem out_B (c : Dev nD) (i : grid0.Coords) (arg1 : Memref sig .tc .vmem S256x5120 .bf16) (harg1 : arg1.IsWhole) (arg2 : Memref sig .tc .vmem S1x5120 .f32) (harg2 : arg2.IsWhole)
    (arg3 : Memref sig .tc .vmem S640x1024 .i32) (harg3 : arg3.IsWhole) (arg4 : Memref sig .tc .vmem S40x1024 .bf16) (harg4 : arg4.IsWhole)
    (arg5 : Memref sig .tc .vmem S40x128 .i32) (harg5 : arg5.IsWhole) (arg6 : Memref sig .tc .vmem S256x1024 .bf16) (harg6 : arg6.IsWhole)
    (arg7 : Memref sig .tc .vmem S256x5120 .bf16) (harg7 : arg7.IsWhole) (arg8 : Memref sig .tc .vmem S40x2x1024 .bf16) (harg8 : arg8.IsWhole)
    (arg9 : Memref sig .tc .vmem S40x1024 .i32) (harg9 : arg9.IsWhole) (arg10 : Memref sig .tc .vmem S256x1024 .f32) (harg10 : arg10.IsWhole)
 (hc0 : ¬cond0_0 i)
    (x0 : Vec F S256x5120 .bf16) (x1 : Vec F S1x5120 .f32) (x2 : Vec F S640x1024 .i32) (x3 : Vec F S40x1024 .bf16) (x4 : Vec F S40x128 .i32)
    (xs0 : Vec F S256x5120 .bf16) :
    out0_B_5 c i arg1 harg1 arg2 harg2 arg3 harg3 arg4 harg4 arg5 harg5 arg6 harg6 arg7 harg7 arg8 harg8 arg9 harg9 arg10 harg10 hc0 x0 x1 x2 x3 x4 xs0 = blockOut xs0 x2 x3 x4 := by
  refine (View.read_writes_junk_eq_canon _ _).trans ?_
  refine (View.canon_cons_unit_lit' _ _ _ (by decide)).trans ?_
  refine congrArg k0_pay2 ?_
  refine (congrArg (fun L => arg10.view.readCov L _) (accPieces_B c arg3 harg3 arg4 harg4 arg5 harg5 arg7 harg7 arg8 arg9 arg10 x2 x3 x4 xs0)).trans ?_
  refine (readCov_accPieces _ _ _ _ _ _ _).trans ?_
  simp only [load_whole, View.readCov_eq_canon', scales_B, zeros_B]

end Cert.KernelIdeal.Steps
-- ==== Proof.Result.lean ====
/-
  The kernel's result array, point by point: every point's output block is `blockOut` of the activations the first point
  stored and of the point's own weight blocks; and the input blocks read at coordinates of the argument arrays.
-/
module

public import proofs.«01_k».proof.Proof.Outputs
public import Idealize.ShloMosaic.Lib.Claim

@[expose] public section

set_option maxRecDepth 16384

noncomputable section

namespace Cert.KernelIdeal.Steps

open Idealize.ShloMosaic Idealize.ShloMosaic.TcCoe Idealize.SL.Sem Cert.KernelIdeal Cert.KernelIdeal.Gen

variable {F : FTy → Type} [FloatOps F]
variable (m : (ℓ : Loc nD τ sig) → Buf (Elt F) ℓ)

/-- The first grid point. -/
def first : Fin cfg0.N := ⟨0, lt_of_lt_of_eq (by decide) (show 27 = cfg0.N from N_0.symm)⟩

/-- The carried scratch after every point: the activations stored by the first. -/
theorem carried (c : Dev nD) (n : ℕ) (hn : n < cfg0.N) :
    (outsAt0 m c n hn).2 = normedAll (iblk m c 0 first) (iblk m c 1 first) := by
  induction n with
  | zero =>
    have e := outsAt0_A m c ⟨0, hn⟩ (Nat.zero_mod _)
    dsimp only at e
    rw [e]
    dsimp only
    rw [sout_A]
    rfl
  | succ n ih =>
    have hN := lt_of_lt_of_eq hn (show cfg0.N = 27 from N_0)
    have e := outsAt0_B m c ⟨n + 1, hn⟩ (by dsimp only; omega)
    dsimp only at e
    rw [e]
    dsimp only
    unfold sout0_B_0
    exact ih _

/-- The output block of every point. -/
theorem block (c : Dev nD) (t : Fin cfg0.N) :
    (outsAt0 m c t.val t.isLt).1 = blockOut (normedAll (iblk m c 0 first) (iblk m c 1 first)) (iblk m c 2 t) (iblk m c 3 t) (iblk m c 4 t) := by
  have hN := lt_of_lt_of_eq t.isLt (show cfg0.N = 27 from N_0)
  by_cases h : t.val % 27 = 0
  · obtain rfl : t = first := Fin.ext (by show t.val = 0; omega)
    rw [outsAt0_A m c first h]
    dsimp only
    rw [out_A]
  · rw [outsAt0_B m c t h]
    dsimp only
    rw [out_B, carried]

/-- The result array at row `r`, column `j`: point `j / 1024`, its block's column `j % 1024`. -/
theorem result_apply (c : Dev nD) (r : Fin 256) (j : Fin 27648) (t : Fin cfg0.N) (ht : t.val = j.val / 1024) :
    Value.G5 m c (ix2 r j) = blockOut (normedAll (iblk m c 0 first) (iblk m c 1 first)) (iblk m c 2 t) (iblk m c 3 t) (iblk m c 4 t)
      (ix2 r ⟨j.val % 1024, Nat.mod_lt _ (by decide)⟩) := by
  have hr := r.isLt
  have hj := j.isLt
  have hp : Value.pt5Of (ix2 r j) = t.val := by
    show 27 * (r.val / 256 - 0) + 1 * (j.val / 1024 - 0) = t.val
    omega
  have hl : Value.loc5Of (ix2 r j) = ix2 r ⟨j.val % 1024, Nat.mod_lt _ (by decide)⟩ := by
    funext a
    apply Fin.ext
    match a with
    | ⟨0, _⟩ => exact Nat.mod_eq_of_lt hr
    | ⟨1, _⟩ => rfl
  unfold Value.G5
  rw [dif_pos (by rw [hp]; exact t.isLt), hl, Value.fold0_congr m c _ _ _ (by have := t.isLt; omega) hp, ← Value.outsAt0_sweep m c t.val t.isLt, block]

/-- Each window's block index (decided over the grid). -/
theorem idx : ∀ t : Fin cfg0.N, win0_0.index t = ![0, 0] ∧ win0_1.index t = ![0, 0] ∧ win0_2.index t = ![0, t.val]
    ∧ win0_3.index t = ![0, t.val] ∧ win0_4.index t = ![0, t.val] :=
  (by decide +kernel : ∀ t : Fin grid0.N, _)

/-- The activations' block is the whole array. -/
theorem iblk0_apply (c : Dev nD) (t : Fin cfg0.N) (r : Fin 256) (k : Fin 5120) :
    iblk m c 0 t (ix2 r k) = m ((c : Thread nD τ).loc main_arg0) (ix3 r 0 k) := by
  blk_ext! [iblk, V, idx t]

/-- The gains' block is the whole vector. -/
theorem iblk1_apply (c : Dev nD) (t : Fin cfg0.N) (k : Fin 5120) :
    iblk m c 1 t (ix2 0 k) = m ((c : Thread nD τ).loc main_arg1) (ix1 k) := by
  blk_ext! [iblk, V, idx t]

/-- Point `t` sees columns `1024 t` onward of the weight words. -/
theorem iblk2_apply (c : Dev nD) (t : Fin cfg0.N) (w : Fin 640) (j : Fin 1024) (j' : Fin 27648) (hj : j'.val = t.val * 1024 + j.val) :
    iblk m c 2 t (ix2 w j) = m ((c : Thread nD τ).loc main_arg2) (ix2 w j') := by
  blk_ext! [iblk, V, idx t]

/-- Point `t` sees columns `1024 t` onward of the scales. -/
theorem iblk3_apply (c : Dev nD) (t : Fin cfg0.N) (g : Fin 40) (j : Fin 1024) (j' : Fin 27648) (hj : j'.val = t.val * 1024 + j.val) :
    iblk m c 3 t (ix2 g j) = m ((c : Thread nD τ).loc main_arg3) (ix2 g j') := by
  blk_ext! [iblk, V, idx t]

/-- Point `t` sees columns `128 t` onward of the zero words. -/
theorem iblk4_apply (c : Dev nD) (t : Fin cfg0.N) (g : Fin 40) (l : Fin 128) (l' : Fin 3456) (hl : l'.val = t.val * 128 + l.val) :
    iblk m c 4 t (ix2 g l) = m ((c : Thread nD τ).loc main_arg4) (ix2 g l') := by
  blk_ext! [iblk, V, idx t]

end Cert.KernelIdeal.Steps
-- ==== Proof.Words.lean ====
/-
  The four-bit fields of a 32-bit word, as the reference reads them (shift, mask, convert) and as the kernel reads them
  (shift and mask two fields at a time, join them to the bits of the bf16 number 128, and read each half as a bf16
  number): both read the field's value, the second with 128 added.
-/
module

public import Idealize.ShloMosaic.Lib.Pointwise

@[expose] public section

set_option maxRecDepth 16384

noncomputable section

namespace Cert.Words

open Idealize.ShloMosaic

/-- Field `n` of a word: its bits `4 n` to `4 n + 3`. -/
def field (w : BitVec 32) (n : ℕ) : BitVec 4 := w.extractLsb' (4 * n) 4

/-- A field's value, as a real number. -/
def value (c : BitVec 4) : EReal := ((c.toNat : ℝ) : EReal)

/-- The bits of the bf16 number `128 + c`. -/
def biased (c : BitVec 4) : BitVec 16 := 0x4300#16 ||| c.zeroExtend 16

/-- A word whose two halves are both the bf16 number `128 + c`. -/
def twice (c : BitVec 4) : BitVec 32 :=
  IntOp.ori (IntOp.ori 1124090624#32 (c.zeroExtend 32)) (IntOp.shli .vector (c.zeroExtend 32) 16#32)

/-- Reading the bits `biased c` as a bf16 number gives `128 + c`. -/
theorem ofBits_biased (c : BitVec 4) : Ideal.ofBits .bf16 (biased c) = (((128 : ℝ) + (c.toNat : ℝ) : ℝ) : EReal) := by
  obtain ⟨n, rfl⟩ : ∃ n : Fin 16, c = BitVec.ofFin n := ⟨c.toFin, rfl⟩
  fin_vals n with h
  all_goals
    obtain rfl := Fin.ext (b := ⟨_, by decide⟩) h
    simp [biased, Ideal.ofBits, Ideal.ieee, -EReal.coe_mul, -EReal.coe_add]
    try norm_num [-EReal.coe_add]

/-- The difference of two biased fields is the difference of their values. -/
theorem ofBits_biased_sub (c z : BitVec 4) :
    Ideal.ofBits .bf16 (biased c) - Ideal.ofBits .bf16 (biased z) = value c - value z := by
  rw [ofBits_biased, ofBits_biased, value, value, ← EReal.coe_sub, ← EReal.coe_sub, add_sub_add_left_eq_sub]

/-- Each half of `twice c` is `biased c`. -/
theorem half_twice : ∀ (c : BitVec 4) (b : Fin 2), (twice c).extractLsb' (16 * b.val) 16 = biased c := by
  decide +kernel

/-- The kernel's extraction of one field with a logical shift and a mask. -/
theorem shrui_mask (w : BitVec 32) (n : Fin 8) :
    IntOp.andi (IntOp.shrui .vector w (BitVec.ofNat 32 (4 * n.val))) 15#32 = (field w n.val).zeroExtend 32 := by
  fin_vals n with h
  all_goals
    rw [h]
    simp only [IntOp.andi, IntOp.shrui, field]
    apply BitVec.eq_of_getLsbD_eq
    intro i hi
    interval_cases i <;> simp

/-- The kernel's extraction of two fields at a time: half `b` after a shift by `4 k` holds field `k + 4 b`, biased. -/
theorem half_shrui_mask (w : BitVec 32) (k : Fin 4) (b : Fin 2) :
    (IntOp.ori (IntOp.andi (IntOp.shrui .vector w (BitVec.ofNat 32 (4 * k.val))) 983055#32) 1124090624#32).extractLsb' (16 * b.val) 16
      = biased (field w (k.val + 4 * b.val)) := by
  fin_vals k with hk <;> fin_vals b with hb
  all_goals
    rw [hk, hb]
    simp only [IntOp.ori, IntOp.andi, IntOp.shrui, field, biased]
    apply BitVec.eq_of_getLsbD_eq
    intro i hi
    interval_cases i <;> simp

/-- The reference's extraction of one field with an arithmetic shift and a mask. -/
theorem shrsi_mask (w : BitVec 32) (n : Fin 8) :
    IntOp.andi (IntOp.shrsi .host w (BitVec.ofNat 32 (4 * n.val))) 15#32 = (field w n.val).zeroExtend 32 := by
  fin_vals n with h
  all_goals
    rw [h]
    simp only [IntOp.andi, IntOp.shrsi, field]
    apply BitVec.eq_of_getLsbD_eq
    intro i hi
    interval_cases i <;> simp [BitVec.getElem_sshiftRight]

/-- Converting an extended field gives its value. -/
theorem sitofp_field (c : BitVec 4) : (FloatOps.sitofp (F := Ideal) .bf16 (c.zeroExtend 32) : EReal) = value c := by
  have h : (c.zeroExtend 32).toInt = (c.toNat : ℤ) := by revert c; decide +kernel
  show (((c.zeroExtend 32).toInt : ℝ) : EReal) = value c
  rw [h, value]
  norm_cast

end Cert.Words
-- ==== Proof.Formula.lean ====
/-
  The number both programs compute, over the extended reals: one element of the product of the normalised activations
  with the dequantised weights.
-/
module

public import proofs.«01_k».proof.Proof.Words

@[expose] public section

noncomputable section

namespace Cert.Formula

open Idealize.ShloMosaic Cert.Words

/-- The normalising factor of a row of activations: the inverse square root of the mean square plus the small constant. -/
def factor (x : Fin 5120 → EReal) : EReal :=
  Ideal.rsqrt (Ideal.div (∑ k, x k * x k) (Ideal.ofBits .f32 1168113664#32) + Ideal.ofBits .f32 897988541#32)

/-- Weight `k` of a column with words `q`, group scales `s` and group zeros `z`: eight codes to a word, 128 rows to a group. -/
def weight (q : Fin 640 → BitVec 32) (s : Fin 40 → EReal) (z : Fin 40 → BitVec 4) (k : Fin 5120) : EReal :=
  (value (field (q ⟨k.val / 8, by omega⟩) (k.val % 8)) - value (z ⟨k.val / 128, by omega⟩)) * s ⟨k.val / 128, by omega⟩

/-- One output: a row of activations `x`, scaled by its factor and the gains `g`, against a column of weights. -/
def output (x g : Fin 5120 → EReal) (q : Fin 640 → BitVec 32) (s : Fin 40 → EReal) (z : Fin 40 → BitVec 4) : EReal :=
  ∑ k, x k * factor x * g k * weight q s z k

end Cert.Formula
-- ==== Proof.Tile.lean ====
/-
  One contraction step of the kernel over the extended reals, read at an index: the zero words, the weight tile and the
  permuted activations.
-/
module

public import proofs.«01_k».proof.Proof.Outputs
public import proofs.«01_k».proof.Proof.Formula
public import Idealize.ShloMosaic.Lib.BitcastPair

@[expose] public section

set_option maxRecDepth 16384

noncomputable section

namespace Cert.KernelIdeal.Steps

open Idealize.ShloMosaic Idealize.ShloMosaic.TcCoe Idealize.SL.Sem Cert.KernelIdeal Cert.KernelIdeal.Gen Cert.Words Cert.Formula

/-! ## The zero words -/

/-- The word that lane `j % 128` of chunk `j / 128` reads is word `j / 8`. -/
theorem zero_word_lane : ∀ j : Fin 1024,
    (Scalar.select
      (IntOp.cmpi CmpIPredicate.slt
        (IntOp.addi (BitVec.ofNat 32 (16 * (j.val / 128))) (IntOp.shrsi ArithUnit.vector (BitVec.ofNat 32 (j.val % 128)) 3#32)) 0#32)
      (IntOp.addi
        (IntOp.addi (BitVec.ofNat 32 (16 * (j.val / 128))) (IntOp.shrsi ArithUnit.vector (BitVec.ofNat 32 (j.val % 128)) 3#32)) 128#32)
      (IntOp.addi (BitVec.ofNat 32 (16 * (j.val / 128))) (IntOp.shrsi ArithUnit.vector (BitVec.ofNat 32 (j.val % 128)) 3#32))).toNat % 128
      = j.val / 8 := by
  decide +kernel

/-- The shift of lane `j % 128` is four times `j % 8`. -/
theorem zero_shift_lane : ∀ j : Fin 1024,
    IntOp.muli 4#32 (IntOp.andi (BitVec.ofNat 32 (j.val % 128)) 7#32) = BitVec.ofNat 32 (4 * (j.val % 8)) := by
  decide +kernel

/-- Column `j` of the zero words holds field `j % 8` of word `j / 8` in both halves. -/
theorem zeroAll_apply (x : Vec Ideal S40x128 .i32) (g : Fin 40) (j : Fin 1024) :
    zeroAll (F := Ideal) x (ix2 g j) = twice (field (x (ix2 g ⟨j.val / 8, by omega⟩)) (j.val % 8)) := by
  show zeroWords (F := Ideal) (BitVec.ofNat 32 (16 * (j.val / 128))) x (ix2 g ⟨j.val % 128, _⟩) = _
  pointwise [zeroWords]
  simp only [zero_word_lane, zero_shift_lane]
  rw [shrui_mask _ ⟨j.val % 8, Nat.mod_lt _ (by decide)⟩]
  rfl

/-! ## The weight tile -/

/-- A tile of words read as half words: row `i` is half `i % 2` of word row `i / 2`. -/
theorem half_rows (w : IVec S16x1024 32) (i : Fin 32) (l : Fin 1024) :
    bitcast S32x1024 16 w bitcasts_S16x1024_w32_S32x1024_w16 (ix2 i l) = (w (ix2 ⟨i.val / 2, by omega⟩ l)).extractLsb' (16 * (i.val % 2)) 16 := by
  refine (bitcast_32_16 w bitcasts_S16x1024_w32_S32x1024_w16 (ix2 i l)).trans ?_
  refine congrArg (fun y => (w y).extractLsb' (16 * (i.val % 2)) 16) (funext fun a => Fin.ext ?_)
  match a with
  | ⟨0, _⟩ => exact Shape.Bitcasts.srcIdx_row _ _ _ _ _ rfl
  | ⟨1, _⟩ => exact Shape.Bitcasts.srcIdx_other _ _ _ _ _ (by show ¬(1 + 2 = 2); decide)

/-- Every row of the sixteen copies is the row. -/
theorem rows16_apply (x : FVec Ideal S1x1024 .bf16) (i : Fin 16) (l : Fin 1024) : rows16 x (ix2 i l) = x (ix2 0 l) :=
  concatenate_ofFn_unit_apply 0 (fun _ : Fin 16 => x)
    concatenates_S1x1024_S1x1024_S1x1024_S1x1024_S1x1024_S1x1024_S1x1024_S1x1024_S1x1024_S1x1024_S1x1024_S1x1024_S1x1024_S1x1024_S1x1024_S1x1024_S16x1024_d0
    rfl rfl (ix2 i l) i rfl (ix2 0 l) fun b hb => by
      match b with
      | ⟨0, _⟩ => exact absurd rfl hb
      | ⟨1, _⟩ => rfl

/-- Row `i` of a group's scale rows is half `i % 2` of its scale words. -/
theorem scaleRows_apply (s : Vec Ideal S1x2x1024 .bf16) (i : Fin 32) (l : Fin 1024) :
    scaleRows s (ix2 i l) = s (ix3 0 ⟨i.val % 2, Nat.mod_lt _ (by decide)⟩ l) := by
  pointwise [scaleRows]
  split <;> rename_i h
  · have h' : i.val % 2 = 0 := h
    rw [rows16_apply]
    pointwise
    exact congrArg (fun p => s (ix3 0 p l)) (Fin.ext (by show 0 = i.val % 2; omega))
  · have h' : ¬i.val % 2 = 0 := h
    rw [rows16_apply]
    pointwise
    exact congrArg (fun p => s (ix3 0 p l)) (Fin.ext (by show 1 = i.val % 2; omega))

/-- The stored scale words at an index: both halves are the scale. -/
theorem pay79_apply (x : Vec Ideal S40x1024 .bf16) (g : Fin 40) (p : Fin 2) (l : Fin 1024) : k0_pay79 x (ix3 g p l) = x (ix2 g l) := by
  pointwise [k0_pay79]
  exact ite_self _

/-- Row `i` of the part at shift `4 k`: the code in field `k + 4 (i % 2)` of word row `i / 2`, less the zero, times the scale. -/
theorem part_apply (k : Fin 4) (q : Vec Ideal S16x1024 .i32) (s : Vec Ideal S1x2x1024 .bf16) (z : Vec Ideal S1x1024 .i32) (i : Fin 32) (l : Fin 1024)
    (c : BitVec 4) (hz : z (ix2 0 l) = twice c) (y : Ideal .bf16) (hs : ∀ p : Fin 2, s (ix3 0 p l) = y) :
    part (BitVec.ofNat 32 (4 * k.val)) q s z (ix2 i l)
      = (value (field (q (ix2 ⟨i.val / 2, by omega⟩ l)) (k.val + 4 * (i.val % 2))) - value c) * y := by
  have hb : i.val % 2 < 2 := Nat.mod_lt _ (by decide)
  pointwise [part, zeroRows]
  rw [scaleRows_apply, hs, half_rows, half_rows]
  pointwise
  rw [hz, half_shrui_mask (q (ix2 ⟨i.val / 2, by omega⟩ l)) k ⟨i.val % 2, hb⟩, half_twice c ⟨i.val % 2, hb⟩, ofBits_biased_sub]

/-- Row `i` of the weight tile of step `n`: group `2 n + i / 128`, shift `4 (i % 128 / 32)`, row `i % 32` of that part. -/
theorem weights_part (q : ℕ → Vec Ideal S16x1024 .i32) (s : ℕ → Vec Ideal S1x2x1024 .bf16) (z : ℕ → Vec Ideal S1x1024 .i32) (n : ℕ) (i : Fin 256) (l : Fin 1024) :
    weights q s z n (ix2 i l) = part (BitVec.ofNat 32 (4 * (i.val % 128 / 32))) (q (2 * n + i.val / 128)) (s (2 * n + i.val / 128)) (z (2 * n + i.val / 128))
      (ix2 ⟨i.val % 32, Nat.mod_lt _ (by decide)⟩ l) := by
  pointwise [weights]
  have hi := i.isLt
  have key : ∀ (g k : ℕ) (sh : BitVec 32) (j : Fin 32), i.val / 128 = g → i.val % 128 / 32 = k → sh = BitVec.ofNat 32 (4 * k) → j.val = i.val % 32 →
      part sh (q (2 * n + g)) (s (2 * n + g)) (z (2 * n + g)) (ix2 j l)
        = part (BitVec.ofNat 32 (4 * (i.val % 128 / 32))) (q (2 * n + i.val / 128)) (s (2 * n + i.val / 128)) (z (2 * n + i.val / 128))
          (ix2 ⟨i.val % 32, Nat.mod_lt _ (by decide)⟩ l) := by
    rintro g k sh j rfl rfl rfl hj
    exact congrArg (fun j => part _ _ _ _ (ix2 j l)) (Fin.ext hj)
  by_cases h0 : i.val < 32
  · rw [dif_pos h0]
    exact key 0 0 _ _ (by omega) (by omega) rfl (by dsimp only; omega)
  rw [dif_neg h0]
  by_cases h1 : i.val - 32 < 32
  · rw [dif_pos h1]
    exact key 0 1 _ _ (by omega) (by omega) rfl (by dsimp only; omega)
  rw [dif_neg h1]
  by_cases h2 : i.val - 32 - 32 < 32
  · rw [dif_pos h2]
    exact key 0 2 _ _ (by omega) (by omega) rfl (by dsimp only; omega)
  rw [dif_neg h2]
  by_cases h3 : i.val - 32 - 32 - 32 < 32
  · rw [dif_pos h3]
    exact key 0 3 _ _ (by omega) (by omega) rfl (by dsimp only; omega)
  rw [dif_neg h3]
  by_cases h4 : i.val - 32 - 32 - 32 - 32 < 32
  · rw [dif_pos h4]
    exact key 1 0 _ _ (by omega) (by omega) rfl (by dsimp only; omega)
  rw [dif_neg h4]
  by_cases h5 : i.val - 32 - 32 - 32 - 32 - 32 < 32
  · rw [dif_pos h5]
    exact key 1 1 _ _ (by omega) (by omega) rfl (by dsimp only; omega)
  rw [dif_neg h5]
  by_cases h6 : i.val - 32 - 32 - 32 - 32 - 32 - 32 < 32
  · rw [dif_pos h6]
    exact key 1 2 _ _ (by omega) (by omega) rfl (by dsimp only; omega)
  rw [dif_neg h6]
  exact key 1 3 _ _ (by omega) (by omega) rfl (by dsimp only; omega)

/-! ## The permuted activations -/

/-- The lane that lane `l` of a chunk takes its activation from. -/
def src (l : ℕ) : ℕ := 8 * (l % 32 / 2) + 4 * (l % 2) + l / 32

/-- The kernel's index arithmetic computes `src`. -/
theorem src_lane : ∀ l : Fin 128,
    (Scalar.select
      (IntOp.cmpi CmpIPredicate.slt
        (IntOp.addi
          (IntOp.addi (IntOp.muli 8#32 (IntOp.shrsi ArithUnit.vector (IntOp.andi (BitVec.ofNat 32 l.val) 31#32) 1#32))
            (IntOp.muli 4#32 (IntOp.andi (BitVec.ofNat 32 l.val) 1#32)))
          (IntOp.shrsi ArithUnit.vector (BitVec.ofNat 32 l.val) 5#32)) 0#32)
      (IntOp.addi
        (IntOp.addi
          (IntOp.addi (IntOp.muli 8#32 (IntOp.shrsi ArithUnit.vector (IntOp.andi (BitVec.ofNat 32 l.val) 31#32) 1#32))
            (IntOp.muli 4#32 (IntOp.andi (BitVec.ofNat 32 l.val) 1#32)))
          (IntOp.shrsi ArithUnit.vector (BitVec.ofNat 32 l.val) 5#32)) 128#32)
      (IntOp.addi
        (IntOp.addi (IntOp.muli 8#32 (IntOp.shrsi ArithUnit.vector (IntOp.andi (BitVec.ofNat 32 l.val) 31#32) 1#32))
          (IntOp.muli 4#32 (IntOp.andi (BitVec.ofNat 32 l.val) 1#32)))
        (IntOp.shrsi ArithUnit.vector (BitVec.ofNat 32 l.val) 5#32))).toNat % 128 = src l.val := by
  decide +kernel

/-- `src` stays within a chunk. -/
theorem src_lt (l : Fin 128) : src l.val < 128 := by
  have := l.isLt
  unfold src
  omega

/-- Lane `l` of a normalised chunk: activation `src l` times the row's factor times gain `src l`. -/
theorem normed_apply (r : FVec Ideal S256x1 .f32) (x : Vec Ideal S256x128 .bf16) (g : Vec Ideal S1x128 .f32) (i : Fin 256) (l : Fin 128) :
    normed r x g (ix2 i l) = (x (ix2 i ⟨src l.val, src_lt l⟩) * r (ix2 i 0) * g (ix2 0 ⟨src l.val, src_lt l⟩) : EReal) := by
  pointwise [normed, k0_pay4]
  simp only [src_lane]

/-- The kernel's factor of a row. -/
theorem pay3_apply (x : Vec Ideal S256x5120 .bf16) (i : Fin 256) : k0_pay3 x (ix2 i 0) = factor fun k => x (ix2 i k) := by
  pointwise [k0_pay3]
  rfl

/-- The column that column `y` of the permuted activations comes from. -/
def col (y : Fin 5120) : Fin 5120 :=
  ⟨128 * (y.val / 128) + src (y.val % 128), by have := src_lt ⟨y.val % 128, Nat.mod_lt _ (by decide)⟩; have := y.isLt; dsimp only at *; omega⟩

/-- The permuted activations at an index. -/
theorem normedAll_apply (x0 : Vec Ideal S256x5120 .bf16) (x1 : Vec Ideal S1x5120 .f32) (i : Fin 256) (y : Fin 5120) :
    normedAll x0 x1 (ix2 i y) = (x0 (ix2 i (col y)) * factor (fun k => x0 (ix2 i k)) * x1 (ix2 0 (col y)) : EReal) := by
  have hy := y.isLt
  show normed (k0_pay3 x0) (View.ld x0 (boxX (y.val / 128))) (View.ld x1 (boxG (y.val / 128))) (ix2 i ⟨y.val % 128, _⟩) = _
  refine (normed_apply _ _ _ _ _).trans ?_
  rw [pay3_apply]
  have e : 128 * (y.val / 128 % 40) + src (y.val % 128) = (col y).val := by show _ = 128 * (y.val / 128) + _; omega
  congr 2
  · congr 1
    pointwise [boxX]
    exact congrArg (fun y => x0 (ix2 i y)) (Fin.ext e)
  · pointwise [boxG]
    exact congrArg (fun y => x1 (ix2 0 y)) (Fin.ext e)

end Cert.KernelIdeal.Steps
-- ==== Proof.Contraction.lean ====
/-
  The kernel's output block over the extended reals: twenty contraction steps of 256 permuted rows each are the one sum
  over the 5120 rows in their own order.
-/
module

public import proofs.«01_k».proof.Proof.Tile
public import Idealize.ShloMosaic.Lib.Pipeline.ValueKit.Acc

@[expose] public section

set_option maxRecDepth 16384

noncomputable section

namespace Cert.KernelIdeal.Steps

open Idealize.ShloMosaic Idealize.ShloMosaic.TcCoe Idealize.SL.Sem Cert.KernelIdeal Cert.KernelIdeal.Gen Cert.Words Cert.Formula

/-- The accumulator after step `n` is the sum of the products so far. -/
theorem accum_apply (h : ℕ → Vec Ideal S256x256 .bf16) (q : ℕ → Vec Ideal S16x1024 .i32) (s : ℕ → Vec Ideal S1x2x1024 .bf16) (z : ℕ → Vec Ideal S1x1024 .i32)
    (i : Fin 256) (l : Fin 1024) (n : ℕ) :
    (accum h q s z n (ix2 i l) : EReal) = ∑ k ∈ Finset.range (n + 1), (product h q s z k (ix2 i l) : EReal) := by
  induction n with
  | zero =>
    rw [Finset.sum_range_one]
    pointwise [accum]
  | succ n ih =>
    rw [Finset.sum_range_succ, ← ih]
    pointwise [accum]

/-- The product of step `n` at an index. -/
theorem product_apply (h : ℕ → Vec Ideal S256x256 .bf16) (q : ℕ → Vec Ideal S16x1024 .i32) (s : ℕ → Vec Ideal S1x2x1024 .bf16) (z : ℕ → Vec Ideal S1x1024 .i32)
    (n : ℕ) (i : Fin 256) (l : Fin 1024) :
    (product h q s z n (ix2 i l) : EReal) = ∑ p : Fin 256, (h n (ix2 i p) * weights q s z n (ix2 p l) : EReal) := by
  pointwise [product]

/-- The accumulator after the last step, as one double sum. -/
theorem accum_last (h : ℕ → Vec Ideal S256x256 .bf16) (q : ℕ → Vec Ideal S16x1024 .i32) (s : ℕ → Vec Ideal S1x2x1024 .bf16) (z : ℕ → Vec Ideal S1x1024 .i32)
    (i : Fin 256) (l : Fin 1024) :
    (accum h q s z 19 (ix2 i l) : EReal) = ∑ n : Fin 20, ∑ p : Fin 256, (h n.val (ix2 i p) * weights q s z n.val (ix2 p l) : EReal) := by
  rw [accum_apply, Finset.sum_range]
  exact Finset.sum_congr rfl fun n _ => product_apply h q s z n.val i l

/-- `col` is a permutation of the rows. -/
theorem col_bijective : Function.Bijective col := by
  refine (Finite.injective_iff_bijective).mp fun a b h => Fin.ext ?_
  have split : ∀ y : Fin 5120, ∃ q u v w : ℕ, u < 4 ∧ v < 16 ∧ w < 2 ∧ y.val = 128 * q + (32 * u + 2 * v + w) ∧ (col y).val = 128 * q + (8 * v + 4 * w + u) :=
    fun y => ⟨y.val / 128, y.val % 128 / 32, y.val % 128 % 32 / 2, y.val % 128 % 2, by omega, by omega, by omega, by omega, rfl⟩
  obtain ⟨q, u, v, w, hu, hv, hw, ha, ca⟩ := split a
  obtain ⟨q', u', v', w', hu', hv', hw', hb, cb⟩ := split b
  rw [h] at ca
  omega

/-- Row `p` of the weight tile of step `n` holds the weight that belongs to the activations in column `n * 256 + p`. -/
theorem weights_apply (x2 : Vec Ideal S640x1024 .i32) (x3 : Vec Ideal S40x1024 .bf16) (x4 : Vec Ideal S40x128 .i32) (n : Fin 20) (p : Fin 256) (l : Fin 1024)
    (y : Fin 5120) (hy : y.val = n.val * 256 + p.val) :
    (weights (fun g => View.ld x2 (boxQ g)) (fun g => View.ld (k0_pay79 x3) (boxPair g)) (fun g => View.ld (zeroAll (F := Ideal) x4) (boxRow g)) n.val (ix2 p l) : EReal)
      = weight (fun w => x2 (ix2 w l)) (fun g => x3 (ix2 g l)) (fun g => field (x4 (ix2 g ⟨l.val / 8, by omega⟩)) (l.val % 8)) (col y) := by
  have hn := n.isLt
  have hp := p.isLt
  have hg : 2 * n.val + p.val / 128 < 40 := by omega
  have hc : (col y).val = 128 * (2 * n.val + p.val / 128) + (8 * (p.val % 32 / 2) + 4 * (p.val % 2) + p.val % 128 / 32) := by
    show 128 * (y.val / 128) + (8 * (y.val % 128 % 32 / 2) + 4 * (y.val % 128 % 2) + y.val % 128 / 32) = _
    have h1 : y.val / 128 = 2 * n.val + p.val / 128 := by omega
    have h2 : y.val % 128 = p.val % 128 := by omega
    rw [h1, h2, show p.val % 128 % 32 = p.val % 32 by omega, show p.val % 128 % 2 = p.val % 2 by omega]
  have hrow : 16 * ((2 * n.val + p.val / 128) % 40) + p.val % 32 / 2 = (col y).val / 8 := by rw [hc, Nat.mod_eq_of_lt hg]; omega
  have hfield : p.val % 128 / 32 + 4 * (p.val % 32 % 2) = (col y).val % 8 := by rw [hc]; omega
  have hgroup : 2 * n.val + p.val / 128 = (col y).val / 128 := by rw [hc]; omega
  refine (weights_part _ _ _ _ _ _).trans ?_
  have hz : View.ld (zeroAll (F := Ideal) x4) (boxRow (2 * n.val + p.val / 128)) (ix2 0 l)
      = twice (field (x4 (ix2 ⟨2 * n.val + p.val / 128, hg⟩ ⟨l.val / 8, by omega⟩)) (l.val % 8)) := by
    refine Eq.trans ?_ (zeroAll_apply x4 ⟨2 * n.val + p.val / 128, hg⟩ l)
    pointwise [boxRow]
    exact congrArg (fun g => zeroAll (F := Ideal) x4 (ix2 g l)) (Fin.ext (Nat.mod_eq_of_lt hg))
  have hs : ∀ b : Fin 2, View.ld (k0_pay79 x3) (boxPair (2 * n.val + p.val / 128)) (ix3 0 b l) = x3 (ix2 ⟨2 * n.val + p.val / 128, hg⟩ l) := by
    intro b
    refine Eq.trans ?_ (pay79_apply x3 ⟨2 * n.val + p.val / 128, hg⟩ b l)
    pointwise [boxPair]
    exact congrArg (fun g => k0_pay79 x3 (ix3 g b l)) (Fin.ext (Nat.mod_eq_of_lt hg))
  refine (part_apply ⟨p.val % 128 / 32, by omega⟩ _ _ _ ⟨p.val % 32, by omega⟩ l _ hz _ hs).trans ?_
  unfold weight
  refine congrArg₂ (· * ·) (congrArg₂ (· - ·) (congrArg value (congrArg₂ field ?_ ?_)) (congrArg value ?_)) ?_
  · pointwise [boxQ]
    exact congrArg (fun w => x2 (ix2 w l)) (Fin.ext hrow)
  · exact hfield
  · exact congrArg (fun g => field (x4 (ix2 g ⟨l.val / 8, by omega⟩)) (l.val % 8)) (Fin.ext hgroup)
  · exact congrArg (fun g => x3 (ix2 g l)) (Fin.ext hgroup)

/-- The output block at an index. -/
theorem blockOut_apply (x0 : Vec Ideal S256x5120 .bf16) (x1 : Vec Ideal S1x5120 .f32) (x2 : Vec Ideal S640x1024 .i32) (x3 : Vec Ideal S40x1024 .bf16)
    (x4 : Vec Ideal S40x128 .i32) (i : Fin 256) (l : Fin 1024) :
    (blockOut (normedAll x0 x1) x2 x3 x4 (ix2 i l) : EReal)
      = output (fun k => x0 (ix2 i k)) (fun k => x1 (ix2 0 k)) (fun w => x2 (ix2 w l)) (fun g => x3 (ix2 g l))
          (fun g => field (x4 (ix2 g ⟨l.val / 8, by omega⟩)) (l.val % 8)) := by
  pointwise [blockOut, k0_pay2]
  refine (accum_last _ _ _ _ i l).trans ?_
  unfold output
  rw [← Function.Bijective.sum_comp col_bijective, ← Fin.sum_mul_add_fin (L := 5120) 20 256]
  refine Finset.sum_congr rfl fun n _ => ?_
  refine Finset.sum_congr rfl fun p _ => ?_
  have hn := n.isLt
  have hp := p.isLt
  refine congrArg₂ (· * ·) ?_ (weights_apply x2 x3 x4 n p l ⟨n.val * 256 + p.val, by omega⟩ rfl)
  refine Eq.trans ?_ (normedAll_apply x0 x1 i ⟨n.val * 256 + p.val, by omega⟩)
  pointwise [boxH]
  exact congrArg (fun y => normedAll x0 x1 (ix2 i y)) (Fin.ext (by dsimp only; omega))

end Cert.KernelIdeal.Steps
-- ==== Proof.Reference.lean ====
/-
  The reference's result over the extended reals, read at an index: one element is `Formula.output` of a row of the
  activations and a column of the weights.
-/
module

public import proofs.«01_k».proof.Proof.Gen.ReferenceIdeal.Run
public import proofs.«01_k».proof.Proof.Formula
public import Idealize.ShloMosaic.Lib.Tactic.CleanTypes

@[expose] public section

set_option maxRecDepth 16384

noncomputable section

namespace Cert.ReferenceIdeal.Read

open Idealize.ShloMosaic Idealize.ShloMosaic.TcCoe Idealize.SL.Sem Cert.ReferenceIdeal Cert.ReferenceIdeal.Gen Cert.Words Cert.Formula

variable (m : (ℓ : Loc nD τ sig) → Buf (Elt Ideal) ℓ)

/-- The shift of row `n` of a word's eight codes. -/
theorem shift_amount (n : ℕ) : IntOp.muli 4#32 (BitVec.ofNat 32 n) = BitVec.ofNat 32 (4 * n) := by
  simp only [IntOp.muli]
  apply BitVec.eq_of_toNat_eq
  simp [Nat.mul_mod]

set_option maxHeartbeats 2000000 in
/-- The reference's result at row `r`, column `j`. -/
theorem result_apply (c : Dev nD) (r : Fin 256) (j : Fin 27648) :
    (Value.res_main_v79 m c (ix2 r j) : EReal)
      = output (fun k => m ((c : Thread nD τ).loc main_arg0) (ix3 r 0 k)) (fun k => m ((c : Thread nD τ).loc main_arg1) (ix1 k))
          (fun w => m ((c : Thread nD τ).loc main_arg2) (ix2 w j)) (fun g => m ((c : Thread nD τ).loc main_arg3) (ix2 g j))
          (fun g => field (m ((c : Thread nD τ).loc main_arg4) (ix2 g ⟨j.val / 8, by omega⟩)) (j.val % 8)) := by
  obtain ⟨n, e⟩ : ∃ n : Fin 8, j.val % 8 = n.val := ⟨⟨j.val % 8, Nat.mod_lt _ (by decide)⟩, rfl⟩
  unfold Value.res_main_v79
  clean_types
  pointwise
  obtain ⟨a2, h2⟩ : ∃ a : S640x27648.Idx → BitVec 32, m ((c : Thread nD τ).loc main_arg2) = a := ⟨_, rfl⟩
  obtain ⟨a4, h4⟩ : ∃ a : S40x3456.Idx → BitVec 32, m ((c : Thread nD τ).loc main_arg4) = a := ⟨_, rfl⟩
  simp only [h2, h4, e]
  unfold output
  refine Finset.sum_congr rfl fun k _ => ?_
  refine congrArg₂ (· * ·) rfl ?_
  unfold weight
  have hk := k.isLt
  refine congrArg₂ (· * ·) (congrArg₂ (· - ·) ?_ ?_) rfl
  · rw [shift_amount, shrsi_mask _ ⟨k.val % 8, Nat.mod_lt _ (by decide)⟩, sitofp_field]
    have e : k.val / 128 * 16 + k.val / 8 % 16 = k.val / 8 := by omega
    exact congrArg (fun w => value (field (a2 (ix2 w j)) (k.val % 8))) (Fin.ext e)
  · refine Eq.trans ?_ (sitofp_field _)
    refine congrArg (FloatOps.sitofp (F := Ideal) .bf16) ?_
    rw [← shrsi_mask]
    fin_vals n with h
    all_goals simp only [h, Nat.reduceSub, Nat.reduceMul, Nat.reduceLT, ↓reduceDIte]

end Cert.ReferenceIdeal.Read
-- ==== Proof.Tie.lean ====
/-
  The two programs' results agree, element by element, where their arguments do.
-/
module

public import proofs.«01_k».proof.Proof.Result
public import proofs.«01_k».proof.Proof.Contraction
public import proofs.«01_k».proof.Proof.Reference

@[expose] public section

set_option maxRecDepth 16384

noncomputable section

namespace Cert.KernelIdeal.Steps

open Idealize.ShloMosaic Idealize.ShloMosaic.TcCoe Idealize.SL.Sem Cert.KernelIdeal Cert.KernelIdeal.Gen Cert.Words Cert.Formula

variable (m : (ℓ : Loc nD τ sig) → Buf (Elt Ideal) ℓ)

/-- The kernel's result at row `r`, column `j`, is the formula at row `r` of the activations and column `j` of the weights. -/
theorem result_formula (c : Dev nD) (r : Fin 256) (j : Fin 27648) :
    (Value.G5 m c (ix2 r j) : EReal)
      = output (fun k => m ((c : Thread nD τ).loc main_arg0) (ix3 r 0 k)) (fun k => m ((c : Thread nD τ).loc main_arg1) (ix1 k))
          (fun w => m ((c : Thread nD τ).loc main_arg2) (ix2 w j)) (fun g => m ((c : Thread nD τ).loc main_arg3) (ix2 g j))
          (fun g => field (m ((c : Thread nD τ).loc main_arg4) (ix2 g ⟨j.val / 8, by omega⟩)) (j.val % 8)) := by
  have hj := j.isLt
  have hN : cfg0.N = 27 := N_0
  obtain ⟨t, ht⟩ : ∃ t : Fin cfg0.N, t.val = j.val / 1024 := ⟨⟨j.val / 1024, by omega⟩, rfl⟩
  refine (result_apply m c r j t ht).trans ((blockOut_apply _ _ _ _ _ _ _).trans ?_)
  congr 1
  · exact funext fun k => iblk0_apply m c first r k
  · exact funext fun k => iblk1_apply m c first k
  · exact funext fun w => iblk2_apply m c t w _ j (by dsimp only; omega)
  · exact funext fun g => iblk3_apply m c t g _ j (by dsimp only; omega)
  · refine funext fun g => congrArg₂ field (iblk4_apply m c t g _ ⟨j.val / 8, by omega⟩ (by dsimp only; omega)) ?_
    dsimp only; omega

end Cert.KernelIdeal.Steps
-- ==== Proof.lean ====
module

public import proofs.«01_k».proof.Defs
public import proofs.«01_k».proof.Proof.Gen.Kernel.Frame
public import proofs.«01_k».proof.Proof.Gen.KernelIdeal.Value
public import proofs.«01_k».proof.Proof.Gen.ReferenceIdeal.Run
public import Idealize.ShloMosaic.Adequacy
public import Idealize.ShloMosaic.Init
public import Idealize.ShloMosaic.Lib.Quiescent
public import Idealize.ShloMosaic.Lib.Bf16Pair
public import Idealize.ShloMosaic.Lib.Bf16PairInverse
public import proofs.«01_k».proof.Proof.Tie

@[expose] public section

noncomputable section

namespace Cert.Proof

open Idealize.ShloMosaic Idealize.SL.Sem

theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem preserves_Kernel_KernelIdeal : preserves_Kernel_KernelIdeal :=
  ⟨IdealRules.bf16_pair.bufferStatement Cert.KernelIdeal.S40x2x1024 Cert.KernelIdeal.S40x1x1024 (by decide),
    IdealRules.bf16_pair.halfStatement Cert.KernelIdeal.S40x1024,
    IdealRules.bf16_pair.statement Cert.KernelIdeal.S40x2x1024 Cert.KernelIdeal.S40x1x1024 (by decide),
    IdealRules.bf16_pair.statement Cert.KernelIdeal.S1x2x1024 Cert.KernelIdeal.S1x1x1024 (by decide),
    IdealRules.bf16_pair.statement Cert.KernelIdeal.S32x1024 Cert.KernelIdeal.S16x1024 (by decide)⟩

theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  obtain ⟨h0, h1, h2, h3, h4⟩ := hagree c
  funext y
  rw [eq_ix2 y]
  refine (Cert.ReferenceIdeal.Read.result_apply m' c _ _).trans ?_
  rw [h0, h1, h2, h3, h4]
  exact (Cert.KernelIdeal.Steps.result_formula m c _ _).symm

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, quiescent_ReferenceIdeal, preserves_Kernel_KernelIdeal, algebraic_KernelIdeal_ReferenceIdeal⟩

end Cert.Proof

end
